-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![4, 256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![4, 256, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S3x256x1024 : Shape := ⟨3, ![3, 256, 1024]⟩
abbrev S4x1024x1024 : Shape := ⟨3, ![4, 1024, 1024]⟩
abbrev S4x256x1024 : Shape := ⟨3, ![4, 256, 1024]⟩
abbrev S2x128x1024 : Shape := ⟨3, ![2, 128, 1024]⟩
abbrev S2x256x1024 : Shape := ⟨3, ![2, 256, 1024]⟩
abbrev S4 : Shape := ⟨1, ![4]⟩
abbrev S_ : Shape := ⟨0, ![]⟩
abbrev S1 : Shape := ⟨1, ![1]⟩
abbrev S1x1024x1024 : Shape := ⟨3, ![1, 1024, 1024]⟩
abbrev S1x128x1024 : Shape := ⟨3, ![1, 128, 1024]⟩
abbrev S128x1024 : Shape := ⟨2, ![128, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .f32⟩
  | .local _ .vmem, ⟨6, _⟩ => ⟨S256x1024, .bf16⟩
  | .local _ .vmem, ⟨7, _⟩ => ⟨S3x256x1024, .bf16⟩
  | .local _ .vmem, ⟨8, _⟩ => ⟨S4x1024x1024, .bf16⟩
  | .local _ .vmem, ⟨9, _⟩ => ⟨S4x256x1024, .f32⟩
  | .local _ .vmem, ⟨10, _⟩ => ⟨S2x128x1024, .bf16⟩
  | .local _ .vmem, ⟨11, _⟩ => ⟨S2x128x1024, .bf16⟩
  | .local _ .vmem, ⟨12, _⟩ => ⟨S2x256x1024, .bf16⟩
  | .local _ .vmem, ⟨13, _⟩ => ⟨S2x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_15 : BitVec 32 := 1#32
  let v18 : BitVec 32 := Scalar.muli v6 c1_i32_15
  let v19 : BitVec 32 := Scalar.addi c0_i32_16 v18
  v19.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_22 : BitVec 32 := 1#32
  let v26 : BitVec 32 := Scalar.muli v4 c1_i32_22
  let v27 : BitVec 32 := Scalar.addi c0_i32_23 v26
  v27.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_54 : BitVec 32 := 1#32
  let v66 : BitVec 32 := Scalar.muli v6 c1_i32_54
  let v67 : BitVec 32 := Scalar.addi c0_i32_55 v66
  v67.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_71 : BitVec 32 := 1#32
  let v82 : BitVec 32 := Scalar.muli v4 c1_i32_71
  let v83 : BitVec 32 := Scalar.addi c0_i32_72 v82
  v83.toNat
def k0_dev7 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_358 : BitVec 32 := 1#32
  let v674 : BitVec 32 := Scalar.muli v6 c1_i32_358
  let v675 : BitVec 32 := Scalar.addi c0_i32_359 v674
  v675.toNat
def k0_dev8 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_368 : BitVec 32 := 1#32
  let v684 : BitVec 32 := Scalar.muli v4 c1_i32_368
  let v685 : BitVec 32 := Scalar.addi c0_i32_369 v684
  v685.toNat
def k0_dev9 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_483 : BitVec 32 := 1#32
  let v903 : BitVec 32 := Scalar.muli v6 c1_i32_483
  let v904 : BitVec 32 := Scalar.addi c0_i32_484 v903
  v904.toNat
def k0_dev10 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_518 : BitVec 32 := 1#32
  let v939 : BitVec 32 := Scalar.muli v4 c1_i32_518
  let v940 : BitVec 32 := Scalar.addi c0_i32_519 v939
  v940.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S4x256x4096 : Shape := ⟨3, ![4, 256, 4096]⟩
abbrev S4x256x32x128 : Shape := ⟨4, ![4, 256, 32, 128]⟩
abbrev S_ : Shape := ⟨0, ![]⟩
abbrev S4x32x256x1 : Shape := ⟨4, ![4, 32, 256, 1]⟩
abbrev S4x32x256x256 : Shape := ⟨4, ![4, 32, 256, 256]⟩
abbrev S4x32x256 : Shape := ⟨3, ![4, 32, 256]⟩
abbrev S4x256x32x1 : Shape := ⟨4, ![4, 256, 32, 1]⟩
abbrev S4x32x128x256 : Shape := ⟨4, ![4, 32, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S4x256x4096, .f32⟩
  | .hbm, ⟨6, _⟩ => ⟨S4x256x32x128, .f32⟩
  | .hbm, ⟨7, _⟩ => ⟨S4x256x4096, .f32⟩
  | .hbm, ⟨8, _⟩ => ⟨S4x256x32x128, .f32⟩
  | .hbm, ⟨9, _⟩ => ⟨S4x256x4096, .f32⟩
  | .hbm, ⟨10, _⟩ => ⟨S4x256x32x128, .f32⟩
  | .hbm, ⟨11, _⟩ => ⟨S_, .f32⟩
  | .hbm, ⟨12, _⟩ => ⟨S4x256x32x128, .f32⟩
  | .hbm, ⟨13, _⟩ => ⟨S_, .f32⟩
  | .hbm, ⟨14, _⟩ => ⟨S4x32x256x1, .f32⟩
  | .hbm, ⟨15, _⟩ => ⟨S_, .f32⟩
  | .hbm, ⟨16, _⟩ => ⟨S4x32x256x1, .f32⟩
  | .hbm, ⟨17, _⟩ => ⟨S4x32x256x256, .f32⟩
  | .hbm, ⟨18, _⟩ => ⟨S_, .f32⟩
  | .hbm, ⟨19, _⟩ => ⟨S4x32x256x256, .f32⟩
  | .hbm, ⟨20, _⟩ => ⟨S4x32x256x256, .f32⟩
  | .hbm, ⟨21, _⟩ => ⟨S_, .f32⟩
  | .hbm, ⟨22, _⟩ => ⟨S4x32x256, .f32⟩
  | .hbm, ⟨23, _⟩ => ⟨S4x32x256x1, .f32⟩
  | .hbm, ⟨24, _⟩ => ⟨S4x32x256x1, .f32⟩
  | .hbm, ⟨25, _⟩ => ⟨S4x32x256x1, .f32⟩
  | .hbm, ⟨26, _⟩ => ⟨S4x32x256x1, .f32⟩
  | .hbm, ⟨27, _⟩ => ⟨S4x32x256x256, .f32⟩
  | .hbm, ⟨28, _⟩ => ⟨S4x32x256x256, .f32⟩
  | .hbm, ⟨29, _⟩ => ⟨S4x32x256x256, .f32⟩
  | .hbm, ⟨30, _⟩ => ⟨S4x32x256x1, .f32⟩
  | .hbm, ⟨31, _⟩ => ⟨S_, .f32⟩
  | .hbm, ⟨32, _⟩ => ⟨S4x32x256, .f32⟩
  | .hbm, ⟨33, _⟩ => ⟨S4x32x256x1, .f32⟩
  | .hbm, ⟨34, _⟩ => ⟨S4x32x256x1, .f32⟩
  | .hbm, ⟨35, _⟩ => ⟨S4x256x32x1, .f32⟩
  | .hbm, ⟨36, _⟩ => ⟨S4x256x32x128, .f32⟩
  | .hbm, ⟨37, _⟩ => ⟨S4x256x32x128, .f32⟩
  | .hbm, ⟨38, _⟩ => ⟨S4x32x128x256, .f32⟩
  | .hbm, ⟨39, _⟩ => ⟨S4x256x32x128, .f32⟩
  | .hbm, ⟨40, _⟩ => ⟨S4x256x32x128, .f32⟩
  | .hbm, ⟨41, _⟩ => ⟨S4x256x32x1, .f32⟩
  | .hbm, ⟨42, _⟩ => ⟨S4x256x32x128, .f32⟩
  | .hbm, ⟨43, _⟩ => ⟨S4x256x32x128, .f32⟩
  | .hbm, ⟨44, _⟩ => ⟨S4x256x4096, .f32⟩
  | .hbm, ⟨45, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.KernelIdealVals.lean ====
/-
# 01_k — what each buffer of the kernel holds

Four devices form a ring. Device `c` multiplies by its own eight heads' share of the weights: for the activations of
every one of the four batches it computes the contribution of its own heads. The activations travel round the ring in
one direction and in the other, and so do the contributions afterwards. This module names the CONTENTS: the rounded
activations, the rounded weights, the contribution of a device to a batch (four copies of one chain of operations, the
program's text repeats it per batch), and what every buffer that takes part in a copy holds once it is filled. All of it
is a function of the memory as launched, for any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pointwise.Index
public import Idealize.ShloMosaic.Lib.ViewIndex

@[expose] public section

set_option maxRecDepth 16384

noncomputable section

namespace Cert.KernelIdealRun

open Cert.KernelIdeal Cert.KernelIdeal.Gen
open Idealize.ShloMosaic
open Idealize.ShloMosaic.TcCoe

variable {F : FTy → Type} [FloatOps F]

/-! ## The ring -/

/-- The device one up the ring, -/
def nxt (c : Dev nD) : Dev nD := ⟨(c.val + 1) % 4, Nat.mod_lt _ (by decide)⟩
/-- and the device one down. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = prv (prv c) := by revert c; decide

/-! ## One device's contribution to one batch

`x` is the rounded activations of the batch, `w0`, `w1`, `w2` the rounded query, key and value weights of the device's
eight heads and `w3` its rounded output weights. -/

/-- The contribution as the program computes it for the batch that came from the device one down, -/
def part1 (x : Vec F S1x256x1024 .bf16) (w0 w1 w2 w3 : Vec F S1x1024x1024 .bf16) : Vec F S1x256x1024 .f32 :=
  let v97 := k0_pay8 x w0
  let v101 := k0_pay9 x w1
  let v105 := k0_pay10 x w2
  let v146 := k0_pay15 v97 v101 v105 (k0_pay12 x w0 w1) (k0_pay13 x w0 w1) (k0_pay14 x w2) (constant S256x128 .f32 0x00000000#32) w3 w3
  let v188 := k0_pay17 v97 v101 v105 v146 (k0_pay16 v97 v101 v105) w3 w3
  let v230 := k0_pay19 v97 v101 v105 v188 (k0_pay18 v97 v101 v105) w3 w3
  k0_pay21 v97 v101 v105 v230 (k0_pay20 v97 v101 v105) w3 w3

/-- for the batch that came from the device one up, -/
def part2 (x : Vec F S1x256x1024 .bf16) (w0 w1 w2 w3 : Vec F S1x1024x1024 .bf16) : Vec F S1x256x1024 .f32 :=
  let v277 := k0_pay22 x
  let v281 := k0_pay23 x w0
  let v283 := k0_pay24 w1
  let v285 := k0_pay25 v277 v283
  let v289 := k0_pay26 v277 w2
  let v351 := k0_pay29 v281 v285 v289 (k0_pay27 v277 v281 v283 w2 w3) (k0_pay28 v277 v281 v283 w2) w3 w3
  let v393 := k0_pay31 v281 v285 v289 v351 (k0_pay30 v281 v285 v289) w3 w3
  let v435 := k0_pay34 v281 v285 v289 v393 (k0_pay32 v281 v285 v289) (k0_pay33 w3) w3
  k0_pay37 v435 (k0_pay35 v281 v285 v289) (k0_pay36 w3) (constant S256x1024 .f32 0x00000000#32)

/-- for the batch from the device two away, -/
def part3 (x : Vec F S1x256x1024 .bf16) (w0 w1 w2 w3 : Vec F S1x1024x1024 .bf16) : Vec F S1x256x1024 .f32 :=
  let v477 := k0_pay38 x
  let v481 := k0_pay39 x w0
  let v485 := k0_pay40 v477 w1
  let v489 := k0_pay41 v477 w2
  let v551 := k0_pay47 v481 v485 v489 (k0_pay42 v477 v481 w1 w2 w3) (k0_pay44 v477 v481 w1) (k0_pay45 v477 v481 w1) (k0_pay46 v477 w2)
    (constant S256x128 .f32 0x00000000#32) w3 w3
  let v593 := k0_pay51 v481 v485 v489 v551 (k0_pay49 v481 v485 v489) (k0_pay50 v481 v485) w3 w3
  let v635 := k0_pay53 v481 v485 v489 v593 (k0_pay52 v481 v485 v489) w3 w3
  k0_pay55 v635 (k0_pay54 v481 v485 v489) w3

/-- and for its own batch. -/
def part0 (x : Vec F S256x1024 .bf16) (w0 w1 w2 w3 : Vec F S1x1024x1024 .bf16) : Vec F S1x256x1024 .f32 :=
  let v698 := k0_pay58 x w0
  let v702 := k0_pay59 x w1
  let v706 := k0_pay60 x w2
  let v747 := k0_pay62 v698 v702 v706 (k0_pay61 x w0 w1) w3 w3
  let v789 := k0_pay65 v698 v702 v706 v747 (k0_pay63 v698 v702) (k0_pay64 v698 v702) w3 w3
  let v831 := k0_pay69 v698 v702 v706 v789 (k0_pay67 v698 v702) (k0_pay68 v698 v702) w3 w3
  k0_pay74 v698 v702 v706 v831 (k0_pay71 v698 v702) (k0_pay72 v698 v702) (k0_pay73 v706) (constant S256x128 .f32 0x00000000#32) w3 w3

/-! ## Buffers made of slots -/

/-- A buffer of `n` slots whose slot `j` is `v j`. -/
def stk {α : Type} {n a b : ℕ} (v : Fin n → (⟨3, ![1, a, b]⟩ : Shape).Idx → α) : (⟨3, ![n, a, b]⟩ : Shape).Idx → α :=
  fun i => v (i 0) (ix3 (0 : Fin 1) (i 1) (i 2))

/-- Slot `j` of a buffer of `n` slots. -/
def slotOf {α : Type} {n a b : ℕ} (f : (⟨3, ![n, a, b]⟩ : Shape).Idx → α) (j : Fin n) : (⟨3, ![1, a, b]⟩ : Shape).Idx → α :=
  fun i => f (ix3 j (i 1) (i 2))

theorem slotOf_stk {α : Type} {n a b : ℕ} (v : Fin n → (⟨3, ![1, a, b]⟩ : Shape).Idx → α) (j : Fin n) : slotOf (stk v) j = v j := by
  funext i
  show v j _ = v j i
  congr 1
  exact Shape.idx3_ext (congrArg Fin.val (Subsingleton.elim (α := Fin 1) _ _)) rfl rfl

/-! ## The contents, device by device -/

variable (m : (ℓ : Loc nD τ sig) → Buf (Elt F) ℓ)

/-- The activations, the query, key, value and output weights as device `c` was launched with. -/
abbrev xIn (c : Dev nD) : Vec F S1x256x1024 .f32 := m ((c : Thread nD τ).loc main_arg0)
abbrev wqIn (c : Dev nD) : Vec F S1024x1024 .f32 := m ((c : Thread nD τ).loc main_arg1)
abbrev wkIn (c : Dev nD) : Vec F S1024x1024 .f32 := m ((c : Thread nD τ).loc main_arg2)
abbrev wvIn (c : Dev nD) : Vec F S1024x1024 .f32 := m ((c : Thread nD τ).loc main_arg3)
abbrev woIn (c : Dev nD) : Vec F S1024x1024 .f32 := m ((c : Thread nD τ).loc main_arg4)

/-- The rounded activations of device `c`'s batch. -/
def xb (c : Dev nD) : Vec F S256x1024 .bf16 := k0_pay1 (xIn m c)

/-- The rounded weights: query, key, value, output. -/
def wb (c : Dev nD) : Fin 4 → Vec F S1x1024x1024 .bf16
  | 0 => k0_pay2 (wqIn m c)
  | 1 => k0_pay3 (wkIn m c)
  | 2 => k0_pay4 (wvIn m c)
  | 3 => k0_pay6 (k0_pay5 (woIn m c))

/-- The gathered activations on device `c`: from the device one down, from the one up, from the one two away. -/
def xg (c : Dev nD) : Vec F S3x256x1024 .bf16 :=
  stk (n := 3) (a := 256) (b := 1024) fun j i => xb m (match j with | 0 => prv c | 1 => nxt c | 2 => prv (prv c)) (ix2 (i 1) (i 2))

/-- The contributions of device `c`: to its own batch, to that of the device one down, one up, two away. -/
def pt (c : Dev nD) : Fin 4 → Vec F S1x256x1024 .f32
  | 0 => part0 (xb m c) (wb m c 0) (wb m c 1) (wb m c 2) (wb m c 3)
  | 1 => part1 (slotOf (n := 3) (a := 256) (b := 1024) (xg m c) 0) (wb m c 0) (wb m c 1) (wb m c 2) (wb m c 3)
  | 2 => part2 (slotOf (n := 3) (a := 256) (b := 1024) (xg m c) 1) (wb m c 0) (wb m c 1) (wb m c 2) (wb m c 3)
  | 3 => part3 (slotOf (n := 3) (a := 256) (b := 1024) (xg m c) 2) (wb m c 0) (wb m c 1) (wb m c 2) (wb m c 3)

/-- The two halves of the contribution to the batch two away, as they are sent: the top one up, the bottom one down. -/
def hs (c : Dev nD) : Fin 2 → Vec F S1x128x1024 .bf16
  | 0 => k0_pay56 (pt m c 3)
  | 1 => k0_pay57 (pt m c 3)

/-- The two halves as device `c` receives them. -/
def hr (c : Dev nD) : Fin 2 → Vec F S1x128x1024 .bf16
  | 0 => hs m (prv c) 0
  | 1 => hs m (nxt c) 1

/-- A slot from its upper and its lower half. -/
def halves {α : Type} (u l : S1x128x1024.Idx → α) : S1x256x1024.Idx → α := fun i =>
  if h : (i 1).val < 128 then u (ix3 (0 : Fin 1) ⟨(i 1).val, h⟩ (i 2))
  else l (ix3 (0 : Fin 1) ⟨(i 1).val - 128, Nat.sub_lt_left_of_lt_add (Nat.le_of_not_lt h) (i 1).isLt⟩ (i 2))

/-- What device `c` sends on: up the ring, its contribution to the batch of the device one up with the received top half
    added in; down the ring, its contribution to the batch of the device one down with the received bottom half added in. -/
def acS (c : Dev nD) : Fin 2 → Vec F S1x256x1024 .bf16
  | 0 => halves (k0_pay75 (pt m c 2) (hr m c 0)) (k0_pay76 (pt m c 2))
  | 1 => halves (k0_pay78 (pt m c 1)) (k0_pay77 (pt m c 1) (hr m c 1))

/-- What device `c` receives of that. -/
def acR (c : Dev nD) : Fin 2 → Vec F S1x256x1024 .bf16
  | 0 => acS m (prv c) 0
  | 1 => acS m (nxt c) 1

/-- The result on device `c`: its own contribution to its batch and the two received sums. -/
def outV (c : Dev nD) : Vec F S1x256x1024 .f32 := k0_pay79 (pt m c 0) (acR m c 0) (acR m c 1)

end Cert.KernelIdealRun

end
-- ==== Proof.KernelIdealSched.lean ====
/-
# 01_k — who signals whom, what each signal hands over, and in what order

Eight transfers run between the devices, four up the ring (even numbers) and four down it (odd numbers):

    0, 1   the own activations, to the neighbour's slot 0 (up) or 1 (down);
    2, 3   the top half of slot 0 on (up), the bottom half of slot 1 on (down): together the neighbour's slot 2;
    4, 5   the two halves of the contribution to the batch two away, back towards it;
    6, 7   the contributions to the neighbours' batches, each with a received half added in.

Before any of them a device tells both neighbours that it is inside, and so hands them the landing places they copy into.
The send cell of a transfer hands the source back to the sender, the receive cell hands the filled landing place to the
receiver. Levels rise in the order of the waits: the neighbours' signals, then the transfers by number.
-/
module

public import proofs.«01_k».proof.Proof.KernelIdealVals
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch: the given memory, every semaphore zero. -/
def s₀ : MemSt nD τ sig (Elt F) := ⟨m, fun _ => 0, ρ⟩

abbrev 𝒱₀ : Variants := Variants.none

/-! ## The pieces of the buffers -/

/-- The cells of the rectangle `r` of buffer `b` on device `c`, at share `q`, holding `f`. -/
abbrev rg (c : Dev nD) (b : Ref sig .tc) (r : Rect b.ty.shape) (q : PosShare TreeShare) (f : b.ty.Contents (Elt F)) : sProp 𝕄 :=
  ((c : Thread nD τ).loc b) ↦[r.set]{q} (f : Buf (Elt F) ((c : Thread nD τ).loc b))

/-- Slot `j` of the gathered activations, -/
abbrev gA : Rect S3x256x1024 := Rect.unit (s := S3x256x1024) ![0, 0, 0] S1x256x1024.size inb_S3x256x1024_S1x256x1024_0_0_0
abbrev gB : Rect S3x256x1024 := Rect.unit (s := S3x256x1024) ![1, 0, 0] S1x256x1024.size inb_S3x256x1024_S1x256x1024_1_0_0
abbrev gC : Rect S3x256x1024 := Rect.unit (s := S3x256x1024) ![2, 0, 0] S1x256x1024.size inb_S3x256x1024_S1x256x1024_2_0_0
/-- the top half of slot 0, the bottom half of slot 1, the two halves of slot 2. -/
abbrev gAt : Rect S3x256x1024 := Rect.unit (s := S3x256x1024) ![0, 0, 0] S1x128x1024.size inb_S3x256x1024_S1x128x1024_0_0_0
abbrev gBb : Rect S3x256x1024 := Rect.unit (s := S3x256x1024) ![1, 128, 0] S1x128x1024.size inb_S3x256x1024_S1x128x1024_1_128_0
abbrev gCt : Rect S3x256x1024 := Rect.unit (s := S3x256x1024) ![2, 0, 0] S1x128x1024.size inb_S3x256x1024_S1x128x1024_2_0_0
abbrev gCb : Rect S3x256x1024 := Rect.unit (s := S3x256x1024) ![2, 128, 0] S1x128x1024.size inb_S3x256x1024_S1x128x1024_2_128_0
/-- The two slots of a buffer of half blocks, -/
abbrev hA : Rect S2x128x1024 := Rect.unit (s := S2x128x1024) ![0, 0, 0] S1x128x1024.size inb_S2x128x1024_S1x128x1024_0_0_0
abbrev hB : Rect S2x128x1024 := Rect.unit (s := S2x128x1024) ![1, 0, 0] S1x128x1024.size inb_S2x128x1024_S1x128x1024_1_0_0
/-- and of one of whole blocks. -/
abbrev aA : Rect S2x256x1024 := Rect.unit (s := S2x256x1024) ![0, 0, 0] S1x256x1024.size inb_S2x256x1024_S1x256x1024_0_0_0
abbrev aB : Rect S2x256x1024 := Rect.unit (s := S2x256x1024) ![1, 0, 0] S1x256x1024.size inb_S2x256x1024_S1x256x1024_1_0_0

/-! ## The eight transfers -/

/-- The device transfer `i` of device `c` goes to, and the one it comes from. -/
def tgt (i : Fin 8) (c : Dev nD) : Dev nD := if i.val % 2 = 0 then nxt c else prv c
def fr (i : Fin 8) (c : Dev nD) : Dev nD := if i.val % 2 = 0 then prv c else nxt c

theorem fr_tgt (i : Fin 8) (c : Dev nD) : fr i (tgt i c) = c := by revert i c; decide
theorem tgt_fr (i : Fin 8) (c : Dev nD) : tgt i (fr i c) = c := by revert i c; decide

/-- The send and the receive semaphore of transfer `i`. -/
def sS (i : Fin 8) : DmaSem sig := ⟨if i.val < 4 then 6 + i.val else 10 + i.val, by have := i.isLt; split <;> (show _ < 22; omega)⟩
def rS (i : Fin 8) : DmaSem sig := ⟨if i.val < 4 then 10 + i.val else 14 + i.val, by have := i.isLt; split <;> (show _ < 22; omega)⟩

/-- The credit of a copy of a whole block and of half a block. -/
abbrev N256 : ℕ := (Memref.whole cc0_scratch0 : Memref sig .tc .vmem S256x1024 .bf16).view.dmaCredit
abbrev N128 : ℕ := (((Memref.whole cc0_scratch1 : Memref sig .tc .vmem S3x256x1024 .bf16).slice gCt (fun _ => rfl)).squeeze S128x1024
  squeezes_S1x128x1024_S128x1024 : Memref sig .tc .vmem S128x1024 .bf16).view.dmaCredit
theorem N256_pos : 0 < N256 := View.dmaCredit_pos _ (by decide)
theorem N128_pos : 0 < N128 := View.dmaCredit_pos _ (by decide)

/-- The credit of the copies on DMA semaphore `k`. -/
def amt (k : ℕ) : ℕ := match k with
  | 6 | 7 | 10 | 11 | 16 | 17 | 20 | 21 => N256
  | _ => N128

/-- What the send cell of transfer `i` hands back: its source at the share it was lent at. -/
def srcP (i : Fin 8) (c : Dev nD) : sProp 𝕄 := match i with
  | 0 => ((c : Thread nD τ).loc cc0_scratch0) ↦[Finset.univ]{fullShare.left} (xb m c : cc0_scratch0.ty.Contents (Elt F))
  | 1 => ((c : Thread nD τ).loc cc0_scratch0) ↦[Finset.univ]{fullShare.right.left} (xb m c : cc0_scratch0.ty.Contents (Elt F))
  | 2 => rg c cc0_scratch1 gAt fullShare.left (xg m c)
  | 3 => rg c cc0_scratch1 gBb fullShare.left (xg m c)
  | 4 => rg c cc0_scratch4 hA fullShare (stk (n := 2) (hs m c))
  | 5 => rg c cc0_scratch4 hB fullShare (stk (n := 2) (hs m c))
  | 6 => rg c cc0_scratch6 aA fullShare (stk (n := 2) (acS m c))
  | 7 => rg c cc0_scratch6 aB fullShare (stk (n := 2) (acS m c))

/-- What the receive cell of transfer `i` hands over: the landing place, filled. -/
def lndP (i : Fin 8) (c : Dev nD) : sProp 𝕄 := match i with
  | 0 => rg c cc0_scratch1 gA fullShare (xg m c)
  | 1 => rg c cc0_scratch1 gB fullShare (xg m c)
  | 2 => rg c cc0_scratch1 gCt fullShare (xg m c)
  | 3 => rg c cc0_scratch1 gCb fullShare (xg m c)
  | 4 => rg c cc0_scratch5 hA fullShare (stk (n := 2) (hr m c))
  | 5 => rg c cc0_scratch5 hB fullShare (stk (n := 2) (hr m c))
  | 6 => rg c cc0_scratch7 aA fullShare (stk (n := 2) (acR m c))
  | 7 => rg c cc0_scratch7 aB fullShare (stk (n := 2) (acR m c))

/-- The landing place of transfer `i` on device `c`, whatever it holds. -/
def dstP (i : Fin 8) (c : Dev nD) : sProp 𝕄 := match i with
  | 0 => iprop(∃ f, rg c cc0_scratch1 gA fullShare f)
  | 1 => iprop(∃ f, rg c cc0_scratch1 gB fullShare f)
  | 2 => iprop(∃ f, rg c cc0_scratch1 gCt fullShare f)
  | 3 => iprop(∃ f, rg c cc0_scratch1 gCb fullShare f)
  | 4 => iprop(∃ f, rg c cc0_scratch5 hA fullShare f)
  | 5 => iprop(∃ f, rg c cc0_scratch5 hB fullShare f)
  | 6 => iprop(∃ f, rg c cc0_scratch7 aA fullShare f)
  | 7 => iprop(∃ f, rg c cc0_scratch7 aB fullShare f)

omit [FloatOps F] in
instance dstP_storable (i : Fin 8) (c : Dev nD) : BI.Storable (upEmb : UEmb _ 𝕄) (dstP (F := F) i c) := by
  unfold dstP; split <;> infer_instance
instance srcP_storable (i : Fin 8) (c : Dev nD) : BI.Storable (upEmb : UEmb _ 𝕄) (srcP m i c) := by
  unfold srcP; split <;> infer_instance
instance lndP_storable (i : Fin 8) (c : Dev nD) : BI.Storable (upEmb : UEmb _ 𝕄) (lndP m i c) := by
  unfold lndP; split <;> infer_instance

/-! ## The cells and the schedule -/

abbrev barS : Sems sig S_ := SemArray.scalar (sig.barrier 0 rfl)
abbrev barCell (c : Dev nD) : GSem nD τ sig := ((c : Thread nD τ), .reg barS.sem)
abbrev sCell (i : Fin 8) (c : Dev nD) : GSem nD τ sig := ((c : Thread nD τ), .dma (sS i))
abbrev rCell (i : Fin 8) (c : Dev nD) : GSem nD τ sig := ((c : Thread nD τ), .dma (rS i))

/-- The device one up signals with the landing places of the transfers that go up to it, -/
def barPayT (d : Dev nD) : sProp 𝕄 := iprop(dstP 0 (nxt d) ∗ dstP 2 (nxt d) ∗ dstP 4 (nxt d) ∗ dstP 6 (nxt d))
/-- the one down with those of the transfers that go down to it. -/
def barPayF (d : Dev nD) : sProp 𝕄 := iprop(dstP 1 (prv d) ∗ dstP 3 (prv d) ∗ dstP 5 (prv d) ∗ dstP 7 (prv d))

omit [FloatOps F] in
instance barPayT_storable (d : Dev nD) : BI.Storable (upEmb : UEmb _ 𝕄) (barPayT (F := F) d) := by unfold barPayT; infer_instance
omit [FloatOps F] in
instance barPayF_storable (d : Dev nD) : BI.Storable (upEmb : UEmb _ 𝕄) (barPayF (F := F) d) := by unfold barPayF; infer_instance

/-- What DMA semaphore `k` hands over. -/
def dmaPay (k : ℕ) (d : Dev nD) : sProp 𝕄 := match k with
  | 6 => srcP m 0 d | 7 => srcP m 1 d | 8 => srcP m 2 d | 9 => srcP m 3 d
  | 10 => lndP m 0 d | 11 => lndP m 1 d | 12 => lndP m 2 d | 13 => lndP m 3 d
  | 14 => srcP m 4 d | 15 => srcP m 5 d | 16 => srcP m 6 d | 17 => srcP m 7 d
  | 18 => lndP m 4 d | 19 => lndP m 5 d | 20 => lndP m 6 d | 21 => lndP m 7 d
  | _ => iprop(emp)

instance dmaPay_storable (k : ℕ) (d : Dev nD) : BI.Storable (upEmb : UEmb _ 𝕄) (dmaPay m k d) := by
  unfold dmaPay; split <;> infer_instance

/-- One round. A barrier cell has two units of one, one from either neighbour; a send or receive cell one unit, the copy. -/
def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma k => amt k.val
  payload g _ d := match g.2 with
    | .reg _ => if d then barPayT g.1.1 else barPayF g.1.1
    | .dma k => dmaPay m k.val g.1.1
  amount_pos g _ _ _ := by
    split
    · exact Nat.one_pos
    · unfold amt; split <;> first | exact N256_pos | exact N128_pos

instance ringRd_payload_storable (g : GSem nD τ sig) (r : ℕ) (d : Bool) :
    BI.Storable (upEmb : UEmb _ 𝕄) ((ringRd m).payload g r d) := by
  show BI.Storable upEmb (match g.2 with
    | .reg _ => if d then barPayT g.1.1 else barPayF g.1.1
    | .dma k => dmaPay m k.val g.1.1)
  (repeat' split) <;> infer_instance

section Tables
variable (c : Dev nD)

theorem duties_bar : (ringRd m).duties (barCell c) 0 = Finset.univ := by
  dsimp only [ringRd]; exact if_pos ⟨rfl, rfl⟩
theorem duties_dma (q : DmaSem sig) : (ringRd m).duties ((c : Thread nD τ), .dma q) 0 = {false} := by
  dsimp only [ringRd]; exact if_pos ⟨rfl, rfl⟩
theorem duties_later (g : GSem nD τ sig) : ∀ r, 1 ≤ r → (ringRd m).duties g r = ∅ :=
  fun r hr => if_neg fun h => by omega
theorem amount_bar (d : Bool) : (ringRd m).amount (barCell c) 0 d = 1 := rfl
theorem amount_dma (q : DmaSem sig) (d : Bool) : (ringRd m).amount ((c : Thread nD τ), .dma q) 0 d = amt q.val := rfl

theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) : (ringRd m).expect ((c : Thread nD τ), .dma q) 0 = amt q.val := by
  unfold Schedule.expect Schedule.amountOf; rw [duties_dma, Finset.sum_singleton, amount_dma]

theorem payload_bar_true : (ringRd m).payload (barCell c) 0 true = barPayT c := rfl
theorem payload_bar_false : (ringRd m).payload (barCell c) 0 false = barPayF c := rfl
theorem payload_s (i : Fin 8) (d : Bool) : (ringRd m).payload (sCell i c) 0 d = srcP m i c := by fin_cases i <;> rfl
theorem payload_r (i : Fin 8) (d : Bool) : (ringRd m).payload (rCell i c) 0 d = lndP m i c := by fin_cases i <;> rfl

theorem rest_bar : bigSep ((ringRd m).duties (barCell c) 0 \ ∅) (fun d => (ringRd m).payload (barCell c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_dma (q : DmaSem sig) :
    bigSep ((ringRd m).duties ((c : Thread nD τ), .dma q) 0 \ ∅) (fun d => (ringRd m).payload ((c : Thread nD τ), .dma q) 0 d)
      = (ringRd m).payload ((c : Thread nD τ), .dma q) 0 false := by
  rw [Finset.sdiff_empty, duties_dma, bigSep_singleton]

end Tables

/-- The credit of transfer `i`. -/
abbrev N (i : Fin 8) : ℕ := amt (rS i).val
theorem amt_s (i : Fin 8) : amt (sS i).val = N i := by fin_cases i <;> rfl

/-! ## What each device owes; the levels -/

/-- The receive credits of the transfers `l`. -/
def OX (l : List (Fin 8)) (c : Dev nD) : CellTallies nD τ sig Unit := match l with
  | [] => 0
  | i :: l => OX l c + tallyAt (rCell i (tgt i c)) () (N i)
/-- All eight, in the order of the program. -/
abbrev all8 : List (Fin 8) := [0, 1, 2, 3, 4, 5, 6, 7]
/-- With the signal to the device one up, -/
def O₁ (c : Dev nD) : CellTallies nD τ sig Unit := OX all8 c + tallyAt (barCell (nxt c)) () 1
/-- with the one to the device one down. -/
def O₀ (c : Dev nD) : CellTallies nD τ sig Unit := O₁ c + tallyAt (barCell (prv c)) () 1

def L (g : GSem nD τ sig) : Finset Unit := if g.1.2 = .tc then {()} else ∅
/-- The level of DMA semaphore `k`: a receive semaphore's transfer, counted from two. -/
def dlv (k : ℕ) : ℕ := if 10 ≤ k ∧ k < 14 then k - 8 else if 18 ≤ k then k - 12 else 0
def lv (g : GSem nD τ sig) (_ : Unit) : ℕ := match g.2 with | .reg _ => 1 | .dma k => dlv k.val

theorem L_of_ne (g : GSem nD τ sig) (h : g.1.2 ≠ .tc) : L g = ∅ := if_neg h
theorem L_tc (c : Dev nD) (sm : SemLoc sig) : L ((c : Thread nD τ), sm) = {()} := if_pos rfl

theorem lv_r (i : Fin 8) (c : Dev nD) (u : Unit) : lv (rCell i c) u = 2 + i.val := by
  show dlv (rS i).val = _; revert i; decide

theorem OX_pos {l : List (Fin 8)} {c : Dev nD} {g : GSem nD τ sig} {u : Unit} (h : 0 < OX l c g u) : ∃ i ∈ l, g = rCell i (tgt i c) := by
  induction l with
  | nil => exact absurd h (Nat.lt_irrefl 0)
  | cons i l ih =>
    unfold OX at h
    rw [Pi.add_apply, Finsupp.add_apply, tallyAt_apply] at h
    by_cases hg : g = rCell i (tgt i c)
    · exact ⟨i, List.mem_cons_self, hg⟩
    · rw [if_neg (fun h' => hg h'.1), Nat.add_zero] at h
      obtain ⟨j, hj, e⟩ := ih h
      exact ⟨j, List.mem_cons_of_mem _ hj, e⟩

theorem O₀_pos {c : Dev nD} {g : GSem nD τ sig} {u : Unit} (h : 0 < O₀ c g u) :
    (∃ i ∈ all8, g = rCell i (tgt i c)) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or] at hn
  obtain ⟨h1, h2⟩ := hn; rw [not_or] at h2
  rw [if_neg (fun h' => h2.1 h'.1), if_neg (fun h' => h2.2 h'.1)] at h
  simp only [Nat.add_zero] at h
  exact h1 (OX_pos h)

omit [FloatOps F] in
/-- A staging copy's semaphore is below everything owed. -/
theorem mayWait_stage (c : Dev nD) (q : DmaSem sig) (hq : dlv q.val = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, -, rfl⟩ | rfl | rfl <;> exact Finset.mem_singleton_self _)
      (fun p hp => by rw [Finset.mem_singleton.mp hp]; exact hq.le)
      (fun g u hg => by
        rcases O₀_pos hg with ⟨i, -, rfl⟩ | rfl | rfl
        · rw [lv_r]; omega
        · exact Nat.one_pos
        · exact Nat.one_pos)
  · rw [MayWait_zero]; iintro -; iempintro

omit [FloatOps F] in
/-- At the wait for its neighbours a device owes the eight transfers, all above. -/
theorem mayWait_bar (c : Dev nD) : (levAts L lv : sProp 𝕄) ⊢ MayWait (c : Thread nD τ) (.reg barS.sem) () (OX all8 c) :=
  MayOwe.of_cut (L := L) (lev := lv) 1 (fun p hp => by rw [Finset.mem_singleton.mp hp, L_tc]; exact Finset.mem_singleton_self _)
    (fun g u hg => by obtain ⟨i, -, rfl⟩ := OX_pos hg; exact Finset.mem_singleton_self _)
    (fun p hp => by rw [Finset.mem_singleton.mp hp]; exact le_refl 1)
    (fun g u hg => by obtain ⟨i, -, rfl⟩ := OX_pos hg; rw [lv_r]; omega)

omit [FloatOps F] in
/-- At the wait for transfer `i` it owes later ones only. -/
theorem mayWait_r (c : Dev nD) (i : Fin 8) (l : List (Fin 8)) (hl : ∀ j ∈ l, i < j) :
    (levAts L lv : sProp 𝕄) ⊢ MayWait (c : Thread nD τ) (.dma (rS i)) () (OX l c) :=
  MayOwe.of_cut (L := L) (lev := lv) (2 + i.val) (fun p hp => by rw [Finset.mem_singleton.mp hp, L_tc]; exact Finset.mem_singleton_self _)
    (fun g u hg => by obtain ⟨j, -, rfl⟩ := OX_pos hg; exact Finset.mem_singleton_self _)
    (fun p hp => by rw [Finset.mem_singleton.mp hp]; exact (lv_r i c ()).le)
    (fun g u hg => by obtain ⟨j, hj, rfl⟩ := OX_pos hg; rw [lv_r]; have := hl j hj; have : i.val < j.val := this; omega)

/-! ## The cells as the launch numbers them: the barrier's, the eight send cells and the eight receive cells -/

def osem (k : Fin 17) : SemLoc sig := if k.val = 0 then .reg barS.sem else .dma ⟨5 + k.val, by have := k.isLt; show _ < 22; omega⟩
abbrev kcell (ck : Dev nD × Fin 17) : GSem nD τ sig := ((ck.1 : Thread nD τ), osem ck.2)
def kS (i : Fin 8) : Fin 17 := ⟨if i.val < 4 then 1 + i.val else 5 + i.val, by have := i.isLt; split <;> omega⟩
def kR (i : Fin 8) : Fin 17 := ⟨if i.val < 4 then 5 + i.val else 9 + i.val, by have := i.isLt; split <;> omega⟩
theorem osem_s (i : Fin 8) : osem (kS i) = .dma (sS i) := by fin_cases i <;> rfl
theorem osem_r (i : Fin 8) : osem (kR i) = .dma (rS i) := by fin_cases i <;> rfl

/-- Every cell of every device is shared under its name in `K`, and is in its first round. -/
def records (K : Dev nD × Fin 17 → ℕ) : sProp 𝕄 :=
  iprop((bigSep Finset.univ fun ck : Dev nD × Fin 17 => cellInv ER (ringRd m) (K ck) (kcell ck))
    ∗ bigSep Finset.univ fun ck : Dev nD × Fin 17 => reached ER (kcell ck) 0)

instance records_persistent (K : Dev nD × Fin 17 → ℕ) : BI.Persistent (records m K) := by unfold records; infer_instance

theorem invs_elim (K : Dev nD × Fin 17 → ℕ) (ck : Dev nD × Fin 17) :
    (bigSep Finset.univ fun ck : Dev nD × Fin 17 => (cellInv ER (ringRd m) (K ck) (kcell ck) : sProp 𝕄)) ⊢ cellInv ER (ringRd m) (K ck) (kcell ck) :=
  bigSep_elim (Finset.mem_univ ck)
omit [FloatOps F] in
theorem reacheds_elim (ck : Dev nD × Fin 17) :
    (bigSep Finset.univ fun ck : Dev nD × Fin 17 => (reached ER (kcell ck) 0 : sProp 𝕄)) ⊢ reached ER (kcell ck) 0 :=
  bigSep_elim (Finset.mem_univ ck)

theorem inv_at (K : Dev nD × Fin 17 → ℕ) (ck : Dev nD × Fin 17) : records m K ⊢ cellInv ER (ringRd m) (K ck) (kcell ck) := by
  unfold records; iintro ⟨H, -⟩; iapply (invs_elim m K ck); iexact H
theorem reached_at (K : Dev nD × Fin 17 → ℕ) (ck : Dev nD × Fin 17) : records m K ⊢ reached ER (kcell ck) 0 := by
  unfold records; iintro ⟨-, H⟩; iapply (reacheds_elim ck); iexact H

theorem inv_s (K) (c : Dev nD) (i : Fin 8) : records m K ⊢ cellInv ER (ringRd m) (K (c, kS i)) (sCell i c) := by
  have := inv_at m K (c, kS i); unfold kcell at this; rwa [osem_s] at this
theorem inv_r (K) (c : Dev nD) (i : Fin 8) : records m K ⊢ cellInv ER (ringRd m) (K (c, kR i)) (rCell i c) := by
  have := inv_at m K (c, kR i); unfold kcell at this; rwa [osem_r] at this
theorem reached_s (K) (c : Dev nD) (i : Fin 8) : records m K ⊢ reached ER (sCell i c) 0 := by
  have := reached_at m K (c, kS i); unfold kcell at this; rwa [osem_s] at this
theorem reached_r (K) (c : Dev nD) (i : Fin 8) : records m K ⊢ reached ER (rCell i c) 0 := by
  have := reached_at m K (c, kR i); unfold kcell at this; rwa [osem_r] at this

end Cert.KernelIdealRun

end
-- ==== Proof.KernelIdealRules.lean ====
/-
# 01_k — one rule per kind of step: load, store, signal, send, wait

Each rule takes the piece of a buffer it touches and gives it back with its new contents, named by the functions of
`KernelIdealVals`. A send gives its source and the neighbour's landing place away; the two waits of a transfer bring the
source back to the sender and the filled landing place to the receiver.
-/
module

public import proofs.«01_k».proof.Proof.KernelIdealSched
public import Idealize.ShloMosaic.Lib.ValueLayout

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Pieces of a buffer -/

theorem set_sq (b : Ref sig .tc) (r : Rect b.ty.shape) (h) (s' : Shape) (hs : r.shape.Squeezes s') :
    (((Memref.whole b).slice r h).squeeze s' hs).view.set = r.set :=
  (View.set_reshape _ _).trans (View.set_slice_whole _ _)

omit [FloatOps F] in
/-- A piece that is two disjoint ones. -/
theorem rg_split (c : Dev nD) (b : Ref sig .tc) {S S₁ S₂ : Finset b.ty.shape.Idx} (hu : S = S₁ ∪ S₂) (hd : Disjoint S₁ S₂) (q : PosShare TreeShare)
    (f : b.ty.Contents (Elt F)) :
    (((c : Thread nD τ).loc b ↦[S]{q} f : sProp 𝕄)) ⊣⊢ iprop(((c : Thread nD τ).loc b ↦[S₁]{q} f) ∗ ((c : Thread nD τ).loc b ↦[S₂]{q} f)) := by
  subst hu; exact pointsTo_union hd

/-- Where the index of a rectangle of unit strides lands. -/
theorem emb_val {s : Shape} (off size : Fin s.rank → Nat) (inb) (k : (Rect.unit (s := s) off size inb).shape.Idx) (a : Fin s.rank) :
    ((Rect.unit off size inb).emb k a).val = off a + (k a).val := by
  show off a + 1 * (k a).val = _; rw [Nat.one_mul]

/-! ### Slots and halves: unions -/

/-- A box cut in two along axis `a`. -/
theorem cut {s o z o₁ z₁ o₂ z₂ : Fin 3 → ℕ} (i i₁ i₂) (a : Fin 3)
    (h : (∀ b, b ≠ a → o₁ b = o b ∧ z₁ b = z b ∧ o₂ b = o b ∧ z₂ b = z b) ∧ o₁ a = o a ∧ o₂ a = o a + z₁ a ∧ z a = z₁ a + z₂ a) :
    (Rect.unit (s := ⟨3, s⟩) o z i).set = (Rect.unit (s := ⟨3, s⟩) o₁ z₁ i₁).set ∪ (Rect.unit (s := ⟨3, s⟩) o₂ z₂ i₂).set
      ∧ Disjoint (Rect.unit (s := ⟨3, s⟩) o₁ z₁ i₁).set (Rect.unit (s := ⟨3, s⟩) o₂ z₂ i₂).set := by
  obtain ⟨hb, h1, h2, h3⟩ := h
  constructor
  · ext x
    rw [Finset.mem_union, Rect.mem_set_unit, Rect.mem_set_unit, Rect.mem_set_unit]
    constructor
    · intro hx
      by_cases hc : (x a).val < o a + z₁ a
      · left; intro b
        by_cases hba : b = a
        · subst hba; have := hx b; omega
        · obtain ⟨e1, e2, -, -⟩ := hb b hba; have := hx b; omega
      · right; intro b
        by_cases hba : b = a
        · subst hba; have := hx b; omega
        · obtain ⟨-, -, e1, e2⟩ := hb b hba; have := hx b; omega
    · rintro (hx | hx) <;> intro b
      · by_cases hba : b = a
        · subst hba; have := hx b; omega
        · obtain ⟨e1, e2, -, -⟩ := hb b hba; have := hx b; omega
      · by_cases hba : b = a
        · subst hba; have := hx b; omega
        · obtain ⟨-, -, e1, e2⟩ := hb b hba; have := hx b; omega
  · rw [Finset.disjoint_left]
    intro x hx hy
    have e1 := Rect.mem_set_unit.mp hx a
    have e2 := Rect.mem_set_unit.mp hy a
    omega

/-- A whole buffer is the box of its size. -/
theorem univ_box {s o : Fin 3 → ℕ} (i) (ho : ∀ a, o a = 0) : (Finset.univ : Finset (⟨3, s⟩ : Shape).Idx) = (Rect.unit (s := ⟨3, s⟩) o s i).set := by
  ext x
  rw [Rect.mem_set_unit]
  refine ⟨fun _ a => ?_, fun _ => Finset.mem_univ _⟩
  have := (x a).isLt
  have h2 : (x a).val < s a := this
  have := ho a; omega

abbrev gAb : Rect S3x256x1024 := Rect.unit (s := S3x256x1024) ![0, 128, 0] S1x128x1024.size (by decide)
abbrev gBt : Rect S3x256x1024 := Rect.unit (s := S3x256x1024) ![1, 0, 0] S1x128x1024.size (by decide)
abbrev gBC : Rect S3x256x1024 := Rect.unit (s := S3x256x1024) ![1, 0, 0] ![2, 256, 1024] (by decide)

theorem gA_cut : gA.set = gAt.set ∪ gAb.set ∧ Disjoint gAt.set gAb.set := cut _ _ _ 1 (by decide)
theorem gB_cut : gB.set = gBt.set ∪ gBb.set ∧ Disjoint gBt.set gBb.set := cut _ _ _ 1 (by decide)
theorem gC_cut : gC.set = gCt.set ∪ gCb.set ∧ Disjoint gCt.set gCb.set := cut _ _ _ 1 (by decide)
theorem gBC_cut : gBC.set = gB.set ∪ gC.set ∧ Disjoint gB.set gC.set := cut _ _ _ 0 (by decide)
theorem g_cut : (Finset.univ : Finset S3x256x1024.Idx) = gA.set ∪ gBC.set ∧ Disjoint gA.set gBC.set := by
  rw [univ_box (s := ![3, 256, 1024]) (o := ![0, 0, 0]) (by decide) (by decide)]; exact cut _ _ _ 0 (by decide)

theorem h_cut : (Finset.univ : Finset S2x128x1024.Idx) = hA.set ∪ hB.set ∧ Disjoint hA.set hB.set := by
  rw [univ_box (s := ![2, 128, 1024]) (o := ![0, 0, 0]) (by decide) (by decide)]; exact cut _ _ _ 0 (by decide)
theorem a_cut : (Finset.univ : Finset S2x256x1024.Idx) = aA.set ∪ aB.set ∧ Disjoint aA.set aB.set := by
  rw [univ_box (s := ![2, 256, 1024]) (o := ![0, 0, 0]) (by decide) (by decide)]; exact cut _ _ _ 0 (by decide)

/-- The halves of the two slots of the sums to be sent. -/
abbrev aAt : Rect S2x256x1024 := Rect.unit (s := S2x256x1024) ![0, 0, 0] S1x128x1024.size inb_S2x256x1024_S1x128x1024_0_0_0
abbrev aAb : Rect S2x256x1024 := Rect.unit (s := S2x256x1024) ![0, 128, 0] S1x128x1024.size inb_S2x256x1024_S1x128x1024_0_128_0
abbrev aBt : Rect S2x256x1024 := Rect.unit (s := S2x256x1024) ![1, 0, 0] S1x128x1024.size inb_S2x256x1024_S1x128x1024_1_0_0
abbrev aBb : Rect S2x256x1024 := Rect.unit (s := S2x256x1024) ![1, 128, 0] S1x128x1024.size inb_S2x256x1024_S1x128x1024_1_128_0
theorem aA_cut : aA.set = aAt.set ∪ aAb.set ∧ Disjoint aAt.set aAb.set := cut _ _ _ 1 (by decide)
theorem aB_cut : aB.set = aBt.set ∪ aBb.set ∧ Disjoint aBt.set aBb.set := cut _ _ _ 1 (by decide)

/-- The four slots of the weights, -/
abbrev w0R : Rect S4x1024x1024 := Rect.unit (s := S4x1024x1024) ![0, 0, 0] S1x1024x1024.size inb_S4x1024x1024_S1x1024x1024_0_0_0
abbrev w1R : Rect S4x1024x1024 := Rect.unit (s := S4x1024x1024) ![1, 0, 0] S1x1024x1024.size inb_S4x1024x1024_S1x1024x1024_1_0_0
abbrev w2R : Rect S4x1024x1024 := Rect.unit (s := S4x1024x1024) ![2, 0, 0] S1x1024x1024.size inb_S4x1024x1024_S1x1024x1024_2_0_0
abbrev w3R : Rect S4x1024x1024 := Rect.unit (s := S4x1024x1024) ![3, 0, 0] S1x1024x1024.size inb_S4x1024x1024_S1x1024x1024_3_0_0
abbrev w123R : Rect S4x1024x1024 := Rect.unit (s := S4x1024x1024) ![1, 0, 0] ![3, 1024, 1024] (by decide)
abbrev w23R : Rect S4x1024x1024 := Rect.unit (s := S4x1024x1024) ![2, 0, 0] ![2, 1024, 1024] (by decide)
theorem w_cut : (Finset.univ : Finset S4x1024x1024.Idx) = w0R.set ∪ w123R.set ∧ Disjoint w0R.set w123R.set := by
  rw [univ_box (s := ![4, 1024, 1024]) (o := ![0, 0, 0]) (by decide) (by decide)]; exact cut _ _ _ 0 (by decide)
theorem w123_cut : w123R.set = w1R.set ∪ w23R.set ∧ Disjoint w1R.set w23R.set := cut _ _ _ 0 (by decide)
theorem w23_cut : w23R.set = w2R.set ∪ w3R.set ∧ Disjoint w2R.set w3R.set := cut _ _ _ 0 (by decide)

/-- and of the contributions. -/
abbrev p0R : Rect S4x256x1024 := Rect.unit (s := S4x256x1024) ![0, 0, 0] S1x256x1024.size inb_S4x256x1024_S1x256x1024_0_0_0
abbrev p1R : Rect S4x256x1024 := Rect.unit (s := S4x256x1024) ![1, 0, 0] S1x256x1024.size inb_S4x256x1024_S1x256x1024_1_0_0
abbrev p2R : Rect S4x256x1024 := Rect.unit (s := S4x256x1024) ![2, 0, 0] S1x256x1024.size inb_S4x256x1024_S1x256x1024_2_0_0
abbrev p3R : Rect S4x256x1024 := Rect.unit (s := S4x256x1024) ![3, 0, 0] S1x256x1024.size inb_S4x256x1024_S1x256x1024_3_0_0
abbrev p123R : Rect S4x256x1024 := Rect.unit (s := S4x256x1024) ![1, 0, 0] ![3, 256, 1024] (by decide)
abbrev p23R : Rect S4x256x1024 := Rect.unit (s := S4x256x1024) ![2, 0, 0] ![2, 256, 1024] (by decide)
theorem p_cut : (Finset.univ : Finset S4x256x1024.Idx) = p0R.set ∪ p123R.set ∧ Disjoint p0R.set p123R.set := by
  rw [univ_box (s := ![4, 256, 1024]) (o := ![0, 0, 0]) (by decide) (by decide)]; exact cut _ _ _ 0 (by decide)
theorem p123_cut : p123R.set = p1R.set ∪ p23R.set ∧ Disjoint p1R.set p23R.set := cut _ _ _ 0 (by decide)
theorem p23_cut : p23R.set = p2R.set ∪ p3R.set ∧ Disjoint p2R.set p3R.set := cut _ _ _ 0 (by decide)

/-! ## Load and store -/

section LoadStore
variable {s : Shape} {e : EltTy}

/-- A load of the rectangle `r` of a buffer held on `S`. -/
theorem wp_ld (c : Dev nD) (M : Memref sig .tc .vmem s e) (r : Rect s) (S : Finset M.view.ref.ty.Idx) (hS : (M.access r).set ⊆ S) (q : PosShare TreeShare)
    (f : M.view.ref.ty.Contents (Elt F)) (v : r.shape.Idx → Elt F e) (hv : (M.access r).read (Elt F) f = v)
    {hl : M.view.LoadsAt r.toLoadRect} {α : Type} {Q : α → sProp 𝕄} {k : (r.shape.Idx → Elt F e) → Prog (TpuEff nD τ sig (Elt F) Λ₀ .tc) α} :
    (M.view.loc (c : Thread nD τ) ↦[S]{q} f : sProp 𝕄)
      ⊢ iprop(((M.view.loc (c : Thread nD τ) ↦[S]{q} f) -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  subst hv
  exact wp_load_rect 𝒱₀ (c : Thread nD τ) none Set.univ (m := M) (r := r) (hl := hl) (k := k) (S := S) (q := q) (f := f) hS

/-- A store of `w` into the rectangle `r`, held exactly: any contents `g` that read `w` there hold afterwards. -/
theorem wp_st (c : Dev nD) (M : Memref sig .tc .vmem s e) (r : Rect s) (S : Finset M.view.ref.ty.Idx) (hS : (M.access r).set = S)
    (f g : M.view.ref.ty.Contents (Elt F)) (w : r.shape.Idx → Elt F e) (hw : (M.access r).read (Elt F) g = w)
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (M.view.loc (c : Thread nD τ) ↦[S]{fullShare} f : sProp 𝕄)
      ⊢ iprop(((M.view.loc (c : Thread nD τ) ↦[S]{fullShare} g) -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  subst hS
  have e : (M.view.loc (c : Thread nD τ) ↦[(M.access r).set]{fullShare} g : sProp 𝕄)
      = (M.view.loc (c : Thread nD τ) ↦[(M.access r).set]{fullShare} ((M.access r).write (Elt F) f w Finset.univ)) := by
    refine pointsTo_congr fun i hi => ?_
    obtain ⟨x, -, rfl⟩ := Finset.mem_map.mp hi
    refine Eq.trans ?_ (View.write_emb_of_mem (v := M.access r) f w (Finset.mem_univ x)).symm
    subst hw
    rw [View.read_apply, cast_cast, cast_eq]
  rw [e]
  exact wp_store 𝒱₀ (c : Thread nD τ) none Set.univ (m := M) (r := r) (w := w) (Mk := Finset.univ) (S := (M.access r).set) (f := f) (hx := hx) (hm := hm) subset_rfl

end LoadStore

/-! ## The transfers -/

/-- The unit of a device's waits, whatever they were, and what it owes. -/
def ow (c : Dev nD) (O : CellTallies nD τ sig Unit) : sProp 𝕄 := iprop(∃ W, owes (c : Thread nD τ) O W)
/-- What a device sends transfer `i` with: the tokens of its two cells, and its place in the send cell. -/
def sndG (i : Fin 8) (c : Dev nD) : sProp 𝕄 :=
  iprop(dutyTok ER (sCell i c) 0 false ∗ dutyTok ER (rCell i (tgt i c)) 0 false ∗ atPos ER (sCell i c) 0 ∅ 0)
/-- What it awaits the return of the source with, -/
def sntG (i : Fin 8) (c : Dev nD) : sProp 𝕄 := iprop(atPos ER (sCell i c) 0 ∅ 0 ∗ cred (tallyAt (sCell i c) () (N i)))
/-- and what it awaits transfer `i` from its neighbour with. -/
def rcvG (i : Fin 8) (c : Dev nD) : sProp 𝕄 := iprop(atPos ER (rCell i c) 0 ∅ 0 ∗ cred (tallyAt (rCell i c) () (N i)))

section Transfers
variable {s : Shape} {e : EltTy}

/-- Transfer `i` copies `src`, lent at share `q` and holding `fs`, to `dst`, which then holds `gs`. -/
structure Xfer (i : Fin 8) (src dst : Memref sig .tc .vmem s e) (q : PosShare TreeShare) (fs : Dev nD → src.view.ref.ty.Contents (Elt F))
    (gs : Dev nD → dst.view.ref.ty.Contents (Elt F)) : Prop where
  src_eq : ∀ c, srcP m i c = (src.view.loc (c : Thread nD τ) ↦[src.view.set]{q} fs c : sProp 𝕄)
  dst_eq : ∀ c, dstP (F := F) i c = (iprop(∃ fd : Buf (Elt F) (dst.view.loc (c : Thread nD τ)), dst.view.loc (c : Thread nD τ) ↦[dst.view.set]{fullShare} fd) : sProp 𝕄)
  lnd_eq : ∀ c, lndP m i c = (dst.view.loc (c : Thread nD τ) ↦[dst.view.set]{fullShare} gs c : sProp 𝕄)
  reads : ∀ c, dst.view.read (Elt F) (gs (tgt i c)) = src.view.read (Elt F) (fs c)
  credit : dst.view.dmaCredit = N i

/-- What a copy lands is what the receive cell hands over. -/
theorem Xfer.lands {i : Fin 8} {src dst : Memref sig .tc .vmem s e} {q fs gs} (X : Xfer m i src dst q fs gs) (c : Dev nD)
    (fd : dst.view.ref.ty.Contents (Elt F)) :
    (dst.view.loc (tgt i c : Thread nD τ) ↦[dst.view.set]{fullShare} (dst.view.write (Elt F) fd (src.view.read (Elt F) (fs c)) Finset.univ) : sProp 𝕄)
      = lndP m i (tgt i c) := by
  rw [X.lnd_eq]
  refine pointsTo_congr fun j hj => ?_
  obtain ⟨x, -, rfl⟩ := Finset.mem_map.mp hj
  rw [View.write_emb_of_mem _ _ (Finset.mem_univ x), ← X.reads c, View.read_apply, cast_cast, cast_eq]

variable (K : Dev nD × Fin 17 → ℕ)

/-- The send of transfer `i`. -/
theorem wp_snd {i : Fin 8} {src dst : Memref sig .tc .vmem s e} {q fs gs} (X : Xfer m i src dst q fs gs) (c n : Dev nD) (hn : n = tgt i c)
    (sm sm' : DmaSem sig) (hsm : sm = sS i) (hsm' : sm' = rS i) (l : List (Fin 8))
    {hsc : (dst : Memref sig (Dev.tc n : Thread nD τ).2.kind .vmem s e).view.ref.isScScratch = false}
    {hsrc : src.view.WordExact} {hdst : dst.view.WordExact}
    {hsem : DmaTarget.Typed .vmem (.dma sm') (.remote (Dev.tc n : Thread nD τ) (dst : Memref sig (Dev.tc n : Thread nD τ).2.kind .vmem s e) (.dma sm) hsc)}
    {α : Type} {Q : α → sProp 𝕄} {k : PUnit → Prog (TpuEff nD τ sig (Elt F) Λ₀ .tc) α} :
    iprop(records m K ∗ srcP m i c ∗ dstP i (tgt i c) ∗ ow c (OX (i :: l) c) ∗ sndG i c)
      ⊢ iprop(((sntG i c ∗ ow c (OX l c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sm) hsc) (.dma sm') hsrc hdst hsem) k) Q) := by
  subst hn hsm hsm'
  rw [X.src_eq, X.dst_eq]
  unfold ow sndG sntG
  iintro ⟨#HR, Hs, ⟨%fd, Hd⟩, ⟨%W, HO⟩, Ht1, Ht2, Hat⟩ Hk
  iapply (Rounds.wp_send_pointsTo 𝒱₀ ER (ringRd m) (c : Thread nD τ) none (c' := (tgt i c : Thread nD τ)) (src := src) (dst := dst) (q := q) (fs := fs c)
    (sS := .dma (sS i)) (sem := .dma (rS i)) (κ₁ := K (c, kS i)) (κ₂ := K (tgt i c, kR i))
    (r₁ := 0) (r₂ := 0) (d₁ := false) (d₂ := false) (fd := fd)
    (by rw [duties_dma]; exact Finset.mem_singleton_self _) (by rw [duties_dma]; exact Finset.mem_singleton_self _)
    () () (N i) X.credit (amt_s i) rfl (OX l c) rfl (W := W)
    (by rw [payload_s, X.src_eq]) (by rw [payload_r, X.lands])) $$ [Hs Hd HO Ht1 Ht2]
  · isplitr; · iapply (inv_s m K c i); iexact HR
    isplitr; · iapply (inv_r m K (tgt i c) i); iexact HR
    isplitl [Hs]; · iexact Hs
    isplitl [Hd]; · iexact Hd
    isplitl [HO]; · iexact HO
    isplitl [Ht1]; · iexact Ht1
    isplitr; · iapply (reached_s m K c i); iexact HR
    isplitl [Ht2]; · iexact Ht2
    iapply (reached_r m K (tgt i c) i); iexact HR
  iintro ⟨Hc, HO⟩
  iapply Hk
  isplitr [HO]
  · isplitl [Hat] <;> iassumption
  iexists W; iexact HO

/-- A wait on a DMA cell that takes its round whole, the cell closed after it. -/
theorem wp_dma (c : Dev nD) (sm : DmaSem sig) (κ : ℕ) (O : CellTallies nD τ sig Unit) {src dst : Memref sig .tc .vmem s e} {hsrc : src.view.WordExact} {hdst : dst.view.WordExact}
    (hN : dst.view.dmaCredit = amt sm.val) {α : Type} {Q : α → sProp 𝕄} {k : PUnit → Prog (TpuEff nD τ sig (Elt F) Λ₀ .tc) α} :
    iprop(cellInv ER (ringRd m) κ ((c : Thread nD τ), .dma sm) ∗ cred (tallyAt ((c : Thread nD τ), SemLoc.dma sm) () (amt sm.val)) ∗ ow c O
        ∗ MayWait (c : Thread nD τ) (.dma sm) () O ∗ atPos ER ((c : Thread nD τ), .dma sm) 0 ∅ 0)
      ⊢ iprop(((ow c O ∗ semVal ((c : Thread nD τ), .dma sm) 0 ∗ (ringRd m).payload ((c : Thread nD τ), .dma sm) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold ow
  iintro ⟨#HI, Hc, ⟨%W, HO⟩, HM, Hat⟩ Hk
  iapply (Rounds.wp_wait_rest_token 𝒱₀ ER (ringRd m) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma])) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  imod (Rounds.cell_close ER (ringRd m) (Set.mem_univ κ) (fun h => h) (R := 0 + 1) (duties_later m ((c : Thread nD τ), .dma sm))) $$ [Hat] with Hz
  · isplitr; · iexact HI
    iexact Hat
  iapply Hk
  isplitl [HO]; · iexists _; iexact HO
  isplitl [Hz]; · iexact Hz
  iapply (Entails.of_eq (rest_dma m c sm)); iexact Hpay

/-- The wait for transfer `i` from the neighbour, owing later transfers only. -/
theorem wp_rcv (i : Fin 8) (c : Dev nD) (sm : DmaSem sig) (hsm : sm = rS i) (l : List (Fin 8)) (hl : ∀ j ∈ l, i < j)
    {src dst : Memref sig .tc .vmem s e} {hsrc : src.view.WordExact} {hdst : dst.view.WordExact}
    (hN : dst.view.dmaCredit = N i) {α : Type} {Q : α → sProp 𝕄} {k : PUnit → Prog (TpuEff nD τ sig (Elt F) Λ₀ .tc) α} :
    iprop(records m K ∗ levAts L lv ∗ ow c (OX l c) ∗ rcvG i c)
      ⊢ iprop(((ow c (OX l c) ∗ semVal (rCell i c) 0 ∗ lndP m i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  rw [← payload_r m c i false]
  unfold rcvG
  iintro ⟨#HR, #HL, HO, Hat, Hc⟩
  iapply (wp_dma m c (rS i) (K (c, kR i)) (OX l c) hN) $$ [HO Hat Hc]
  isplitr; · iapply (inv_r m K c i); iexact HR
  isplitl [Hc]; · iexact Hc
  isplitl [HO]; · iexact HO
  isplitr; · iapply (mayWait_r c i l hl); iexact HL
  iexact Hat

/-- The wait for the own transfer `i` to have left, owing nothing. -/
theorem wp_snt (i : Fin 8) (c : Dev nD) (sm : DmaSem sig) (hsm : sm = sS i)
    {src dst : Memref sig .tc .vmem s e} {hsrc : src.view.WordExact} {hdst : dst.view.WordExact}
    (hN : dst.view.dmaCredit = N i) {α : Type} {Q : α → sProp 𝕄} {k : PUnit → Prog (TpuEff nD τ sig (Elt F) Λ₀ .tc) α} :
    iprop(records m K ∗ ow c 0 ∗ sntG i c)
      ⊢ iprop(((ow c 0 ∗ semVal (sCell i c) 0 ∗ srcP m i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  rw [← payload_s m c i false]
  unfold sntG
  iintro ⟨#HR, HO, Hat, Hc⟩
  iapply (wp_dma m c (sS i) (K (c, kS i)) 0 (hN.trans (amt_s i).symm)) $$ [HO Hat Hc]
  isplitr; · iapply (inv_s m K c i); iexact HR
  isplitl [Hc]; · rw [amt_s]; iexact Hc
  isplitl [HO]; · iexact HO
  isplitr; · rw [MayWait_zero]; iempintro
  iexact Hat

end Transfers

end Cert.KernelIdealRun

end
-- ==== Proof.KernelIdealXfer.lean ====
/-
# 01_k — the eight transfers and the reads of slots

What a load of a slot of each buffer gives, and that each of the eight copies carries the contents its receiver expects.
-/
module

public import proofs.«01_k».proof.Proof.KernelIdealRules
public import Idealize.ShloMosaic.Lib.ValueLayout

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading a slot -/

section Slots
variable {α : Type} {n a b : ℕ}

theorem read_slot (f : (⟨3, ![n, a, b]⟩ : Shape).Idx → α) (j : Fin n) (i) :
    (fun k => f ((Rect.unit (s := ⟨3, ![n, a, b]⟩) ![j.val, 0, 0] ![1, a, b] i).emb k)) = slotOf f j := by
  funext k
  refine congrArg f (Shape.idx3_ext ?_ ?_ ?_) <;> rw [emb_val]
  · have : (k 0).val < 1 := (k 0).isLt
    show j.val + (k 0).val = j.val; omega
  · exact Nat.zero_add _
  · exact Nat.zero_add _

theorem read_stk (v : Fin n → (⟨3, ![1, a, b]⟩ : Shape).Idx → α) (j : Fin n) (i) :
    (fun k => stk v ((Rect.unit (s := ⟨3, ![n, a, b]⟩) ![j.val, 0, 0] ![1, a, b] i).emb k)) = v j :=
  (read_slot (stk v) j i).trans (slotOf_stk v j)

/-- A piece of a slot. -/
theorem stk_emb (v : Fin n → (⟨3, ![1, a, b]⟩ : Shape).Idx → α) (j : Fin n) (o z : ℕ) (i) (k) :
    stk v ((Rect.unit (s := ⟨3, ![n, a, b]⟩) ![j.val, o, 0] ![1, z, b] i).emb k)
      = v j (ix3 (0 : Fin 1) ((Rect.unit (s := ⟨3, ![n, a, b]⟩) ![j.val, o, 0] ![1, z, b] i).emb k 1) ((Rect.unit (s := ⟨3, ![n, a, b]⟩) ![j.val, o, 0] ![1, z, b] i).emb k 2)) := by
  have e : (Rect.unit (s := ⟨3, ![n, a, b]⟩) ![j.val, o, 0] ![1, z, b] i).emb k 0 = j := by
    refine Fin.ext ?_
    rw [emb_val]
    have : (k 0).val < 1 := (k 0).isLt
    show j.val + (k 0).val = j.val; omega
  show v ((Rect.unit (s := ⟨3, ![n, a, b]⟩) ![j.val, o, 0] ![1, z, b] i).emb k 0) _ = _
  rw [e]

/-- The upper half of a slot made of halves, -/
theorem read_upper (v : Fin n → S1x256x1024.Idx → α) (j : Fin n) (u l : S1x128x1024.Idx → α) (h : v j = halves u l) (i) :
    (fun k => stk (a := 256) (b := 1024) v ((Rect.unit (s := ⟨3, ![n, 256, 1024]⟩) ![j.val, 0, 0] ![1, 128, 1024] i).emb k)) = u := by
  funext k
  have e : ((Rect.unit (s := ⟨3, ![n, 256, 1024]⟩) ![j.val, 0, 0] ![1, 128, 1024] i).emb k 1).val = (k 1).val := by
    rw [emb_val]; exact Nat.zero_add _
  have hk : (k 1).val < 128 := (k 1).isLt
  rw [stk_emb, h]
  unfold halves
  rw [dif_pos (by show ((Rect.unit (s := ⟨3, ![n, 256, 1024]⟩) ![j.val, 0, 0] ![1, 128, 1024] i).emb k 1).val < 128; omega)]
  refine congrArg u (Shape.idx3_ext ?_ ?_ ?_)
  · have : (k 0).val < 1 := (k 0).isLt
    show 0 = (k 0).val; omega
  · exact e
  · show ((Rect.unit (s := ⟨3, ![n, 256, 1024]⟩) ![j.val, 0, 0] ![1, 128, 1024] i).emb k 2).val = _
    rw [emb_val]; exact Nat.zero_add _

/-- and the lower. -/
theorem read_lower (v : Fin n → S1x256x1024.Idx → α) (j : Fin n) (u l : S1x128x1024.Idx → α) (h : v j = halves u l) (i) :
    (fun k => stk (a := 256) (b := 1024) v ((Rect.unit (s := ⟨3, ![n, 256, 1024]⟩) ![j.val, 128, 0] ![1, 128, 1024] i).emb k)) = l := by
  funext k
  have e : ((Rect.unit (s := ⟨3, ![n, 256, 1024]⟩) ![j.val, 128, 0] ![1, 128, 1024] i).emb k 1).val = 128 + (k 1).val := emb_val _ _ _ _ _
  rw [stk_emb, h]
  unfold halves
  rw [dif_neg (by show ¬ ((Rect.unit (s := ⟨3, ![n, 256, 1024]⟩) ![j.val, 128, 0] ![1, 128, 1024] i).emb k 1).val < 128; omega)]
  refine congrArg l (Shape.idx3_ext ?_ ?_ ?_)
  · have : (k 0).val < 1 := (k 0).isLt
    show 0 = (k 0).val; omega
  · show ((Rect.unit (s := ⟨3, ![n, 256, 1024]⟩) ![j.val, 128, 0] ![1, 128, 1024] i).emb k 1).val - 128 = _
    omega
  · show ((Rect.unit (s := ⟨3, ![n, 256, 1024]⟩) ![j.val, 128, 0] ![1, 128, 1024] i).emb k 2).val = _
    rw [emb_val]; exact Nat.zero_add _

end Slots

/-! ## The transfers -/

abbrev mX : Memref sig .tc .vmem S256x1024 .bf16 := Memref.whole cc0_scratch0
abbrev mG : Memref sig .tc .vmem S3x256x1024 .bf16 := Memref.whole cc0_scratch1
abbrev mW : Memref sig .tc .vmem S4x1024x1024 .bf16 := Memref.whole cc0_scratch2
abbrev mP : Memref sig .tc .vmem S4x256x1024 .f32 := Memref.whole cc0_scratch3
abbrev mHs : Memref sig .tc .vmem S2x128x1024 .bf16 := Memref.whole cc0_scratch4
abbrev mHr : Memref sig .tc .vmem S2x128x1024 .bf16 := Memref.whole cc0_scratch5
abbrev mAs : Memref sig .tc .vmem S2x256x1024 .bf16 := Memref.whole cc0_scratch6
abbrev mAr : Memref sig .tc .vmem S2x256x1024 .bf16 := Memref.whole cc0_scratch7

/-- A rectangle of one block, as the program hands it to a copy: of 256 rows, -/
abbrev sq256 {s : Shape} (M : Memref sig .tc .vmem s .bf16) (off : Fin s.rank → ℕ) (size : Fin s.rank → ℕ) (i) (h : (Rect.unit (s := s) off size i).shape.Squeezes S256x1024) :
    Memref sig .tc .vmem S256x1024 .bf16 := (M.slice (Rect.unit (s := s) off size i) (fun _ => rfl)).squeeze S256x1024 h
/-- of 128. -/
abbrev sq128 {s : Shape} (M : Memref sig .tc .vmem s .bf16) (off : Fin s.rank → ℕ) (size : Fin s.rank → ℕ) (i) (h : (Rect.unit (s := s) off size i).shape.Squeezes S128x1024) :
    Memref sig .tc .vmem S128x1024 .bf16 := (M.slice (Rect.unit (s := s) off size i) (fun _ => rfl)).squeeze S128x1024 h

abbrev gA' := sq256 mG ![0, 0, 0] S1x256x1024.size inb_S3x256x1024_S1x256x1024_0_0_0 squeezes_S1x256x1024_S256x1024
abbrev gB' := sq256 mG ![1, 0, 0] S1x256x1024.size inb_S3x256x1024_S1x256x1024_1_0_0 squeezes_S1x256x1024_S256x1024
abbrev gAt' := sq128 mG ![0, 0, 0] S1x128x1024.size inb_S3x256x1024_S1x128x1024_0_0_0 squeezes_S1x128x1024_S128x1024
abbrev gBb' := sq128 mG ![1, 128, 0] S1x128x1024.size inb_S3x256x1024_S1x128x1024_1_128_0 squeezes_S1x128x1024_S128x1024
abbrev gCt' := sq128 mG ![2, 0, 0] S1x128x1024.size inb_S3x256x1024_S1x128x1024_2_0_0 squeezes_S1x128x1024_S128x1024
abbrev gCb' := sq128 mG ![2, 128, 0] S1x128x1024.size inb_S3x256x1024_S1x128x1024_2_128_0 squeezes_S1x128x1024_S128x1024
abbrev hsA' := sq128 mHs ![0, 0, 0] S1x128x1024.size inb_S2x128x1024_S1x128x1024_0_0_0 squeezes_S1x128x1024_S128x1024
abbrev hsB' := sq128 mHs ![1, 0, 0] S1x128x1024.size inb_S2x128x1024_S1x128x1024_1_0_0 squeezes_S1x128x1024_S128x1024
abbrev hrA' := sq128 mHr ![0, 0, 0] S1x128x1024.size inb_S2x128x1024_S1x128x1024_0_0_0 squeezes_S1x128x1024_S128x1024
abbrev hrB' := sq128 mHr ![1, 0, 0] S1x128x1024.size inb_S2x128x1024_S1x128x1024_1_0_0 squeezes_S1x128x1024_S128x1024
abbrev asA' := sq256 mAs ![0, 0, 0] S1x256x1024.size inb_S2x256x1024_S1x256x1024_0_0_0 squeezes_S1x256x1024_S256x1024
abbrev asB' := sq256 mAs ![1, 0, 0] S1x256x1024.size inb_S2x256x1024_S1x256x1024_1_0_0 squeezes_S1x256x1024_S256x1024
abbrev arA' := sq256 mAr ![0, 0, 0] S1x256x1024.size inb_S2x256x1024_S1x256x1024_0_0_0 squeezes_S1x256x1024_S256x1024
abbrev arB' := sq256 mAr ![1, 0, 0] S1x256x1024.size inb_S2x256x1024_S1x256x1024_1_0_0 squeezes_S1x256x1024_S256x1024

/-- An index of a block, seen in the one-slot shape. -/
theorem blk_idx (h : S256x1024.numel = S1x256x1024.numel) (x : S256x1024.Idx) :
    Shape.reshapeEquiv h x = ix3 (0 : Fin 1) (x 0) (x 1) := by
  have := ValueIdx.reshapeEquiv_ix2_1ab (a := 256) (b := 1024) h (x 0) (x 1)
  have e : (ValueIdx.ix2 (x 0) (x 1) : S256x1024.Idx) = x := funext fun | ⟨0, _⟩ => rfl | ⟨1, _⟩ => rfl
  rw [e] at this
  exact this.trans (Shape.idx3_ext rfl rfl rfl)

/-- The device whose activations slot `j` of device `d` holds. -/
def gsrc (d : Dev nD) (j : Fin 3) : Dev nD := match j with | 0 => prv d | 1 => nxt d | 2 => prv (prv d)
theorem xg_at (d : Dev nD) (j : Fin 3) (i : S3x256x1024.Idx) (h : i 0 = j) : xg m d i = xb m (gsrc d j) (ix2 (i 1) (i 2)) := by
  subst h; rfl

/-- A whole block of the gathered activations is the activations of the device it came from. -/
theorem xg_blk (d : Dev nD) (j : Fin 3) (i) (h) :
    (fun x => xg m d ((Rect.unit (s := S3x256x1024) ![j.val, 0, 0] S1x256x1024.size i).emb (Shape.reshapeEquiv (s' := S256x1024) h x))) = xb m (gsrc d j) := by
  funext x
  refine (xg_at m d j _ (Fin.ext ?_)).trans (congrArg (xb m (gsrc d j)) ?_)
  · rw [blk_idx]; exact emb_val _ _ _ _ _
  · rw [blk_idx]
    refine (congrArg₂ ix2 (Fin.ext ?_) (Fin.ext ?_)).trans (ix2_eta x)
    · exact (emb_val _ _ _ _ _).trans (Nat.zero_add _)
    · exact (emb_val _ _ _ _ _).trans (Nat.zero_add _)

/-- The same half of two slots that hold the same device's activations. -/
theorem xg_half (c d : Dev nD) (j j' : Fin 3) (hd : gsrc d j' = gsrc c j) (o : ℕ) (i) (i') (k : S1x128x1024.Idx) :
    xg m d ((Rect.unit (s := S3x256x1024) ![j'.val, o, 0] S1x128x1024.size i').emb k)
      = xg m c ((Rect.unit (s := S3x256x1024) ![j.val, o, 0] S1x128x1024.size i).emb k) := by
  have hk : (k 0).val = 0 := by have : (k 0).val < 1 := (k 0).isLt; omega
  refine (xg_at m d j' _ (Fin.ext ?_)).trans (Eq.trans ?_ (xg_at m c j _ (Fin.ext ?_)).symm)
  · refine (emb_val _ _ _ _ _).trans ?_
    rw [hk]; rfl
  · rw [hd]
    refine congrArg (xb m (gsrc c j)) (congrArg₂ ix2 (Fin.ext ?_) (Fin.ext ?_))
    · exact (emb_val _ _ _ _ _).trans (emb_val _ _ _ _ _).symm
    · exact (emb_val _ _ _ _ _).trans (emb_val _ _ _ _ _).symm
  · refine (emb_val _ _ _ _ _).trans ?_
    rw [hk]; rfl

theorem set_mX : mX.view.set = Finset.univ := View.set_whole _

theorem xfer0 : Xfer m 0 mX gA' fullShare.left (fun c => xb m c) (fun c => xg m c) where
  src_eq c := by rw [set_mX]; rfl
  dst_eq c := by rw [show gA'.view.set = gA.set from set_sq cc0_scratch1 gA (fun _ => rfl) _ squeezes_S1x256x1024_S256x1024]; rfl
  lnd_eq c := by rw [show gA'.view.set = gA.set from set_sq cc0_scratch1 gA (fun _ => rfl) _ squeezes_S1x256x1024_S256x1024]; rfl
  reads c := (xg_blk m (nxt c) 0 _ _).trans (congrArg (xb m) (prv_nxt c))
  credit := rfl
theorem xfer1 : Xfer m 1 mX gB' fullShare.right.left (fun c => xb m c) (fun c => xg m c) where
  src_eq c := by rw [set_mX]; rfl
  dst_eq c := by rw [show gB'.view.set = gB.set from set_sq cc0_scratch1 gB (fun _ => rfl) _ squeezes_S1x256x1024_S256x1024]; rfl
  lnd_eq c := by rw [show gB'.view.set = gB.set from set_sq cc0_scratch1 gB (fun _ => rfl) _ squeezes_S1x256x1024_S256x1024]; rfl
  reads c := (xg_blk m (prv c) 1 _ _).trans (congrArg (xb m) (nxt_prv c))
  credit := rfl
theorem xfer2 : Xfer m 2 gAt' gCt' fullShare.left (fun c => xg m c) (fun c => xg m c) where
  src_eq c := by rw [show gAt'.view.set = gAt.set from set_sq cc0_scratch1 gAt (fun _ => rfl) _ squeezes_S1x128x1024_S128x1024]; rfl
  dst_eq c := by rw [show gCt'.view.set = gCt.set from set_sq cc0_scratch1 gCt (fun _ => rfl) _ squeezes_S1x128x1024_S128x1024]; rfl
  lnd_eq c := by rw [show gCt'.view.set = gCt.set from set_sq cc0_scratch1 gCt (fun _ => rfl) _ squeezes_S1x128x1024_S128x1024]; rfl
  reads c := funext fun x => xg_half m c (nxt c) 0 2 (congrArg prv (prv_nxt c)) 0 _ _ (Shape.reshapeEquiv (Shape.Squeezes.numel_eq squeezes_S1x128x1024_S128x1024) x)
  credit := rfl
theorem xfer3 : Xfer m 3 gBb' gCb' fullShare.left (fun c => xg m c) (fun c => xg m c) where
  src_eq c := by rw [show gBb'.view.set = gBb.set from set_sq cc0_scratch1 gBb (fun _ => rfl) _ squeezes_S1x128x1024_S128x1024]; rfl
  dst_eq c := by rw [show gCb'.view.set = gCb.set from set_sq cc0_scratch1 gCb (fun _ => rfl) _ squeezes_S1x128x1024_S128x1024]; rfl
  lnd_eq c := by rw [show gCb'.view.set = gCb.set from set_sq cc0_scratch1 gCb (fun _ => rfl) _ squeezes_S1x128x1024_S128x1024]; rfl
  reads c := funext fun x => xg_half m c (prv c) 1 2 (by show prv (prv (prv c)) = nxt c; revert c; decide) 128 _ _
    (Shape.reshapeEquiv (Shape.Squeezes.numel_eq squeezes_S1x128x1024_S128x1024) x)
  credit := rfl

/-- Two slots of the same place that hold the same vector. -/
theorem stk_same {α : Type} {n a b : ℕ} (v v' : Fin n → (⟨3, ![1, a, b]⟩ : Shape).Idx → α) (j : Fin n) (h : v' j = v j) (i) (k) :
    stk v' ((Rect.unit (s := ⟨3, ![n, a, b]⟩) ![j.val, 0, 0] ![1, a, b] i).emb k) = stk v ((Rect.unit (s := ⟨3, ![n, a, b]⟩) ![j.val, 0, 0] ![1, a, b] i).emb k) :=
  (congrFun (read_stk v' j i) k).trans ((congrFun h k).trans (congrFun (read_stk v j i) k).symm)

theorem xfer4 : Xfer m 4 hsA' hrA' fullShare (fun c => stk (n := 2) (hs m c)) (fun c => stk (n := 2) (hr m c)) where
  src_eq c := by rw [show hsA'.view.set = hA.set from set_sq cc0_scratch4 hA (fun _ => rfl) _ squeezes_S1x128x1024_S128x1024]; rfl
  dst_eq c := by rw [show hrA'.view.set = hA.set from set_sq cc0_scratch5 hA (fun _ => rfl) _ squeezes_S1x128x1024_S128x1024]; rfl
  lnd_eq c := by rw [show hrA'.view.set = hA.set from set_sq cc0_scratch5 hA (fun _ => rfl) _ squeezes_S1x128x1024_S128x1024]; rfl
  reads c := funext fun x => stk_same (hs m c) (hr m (nxt c)) (0 : Fin 2) (congrArg (fun d => hs m d 0) (prv_nxt c)) _
    (Shape.reshapeEquiv (Shape.Squeezes.numel_eq squeezes_S1x128x1024_S128x1024) x)
  credit := rfl
theorem xfer5 : Xfer m 5 hsB' hrB' fullShare (fun c => stk (n := 2) (hs m c)) (fun c => stk (n := 2) (hr m c)) where
  src_eq c := by rw [show hsB'.view.set = hB.set from set_sq cc0_scratch4 hB (fun _ => rfl) _ squeezes_S1x128x1024_S128x1024]; rfl
  dst_eq c := by rw [show hrB'.view.set = hB.set from set_sq cc0_scratch5 hB (fun _ => rfl) _ squeezes_S1x128x1024_S128x1024]; rfl
  lnd_eq c := by rw [show hrB'.view.set = hB.set from set_sq cc0_scratch5 hB (fun _ => rfl) _ squeezes_S1x128x1024_S128x1024]; rfl
  reads c := funext fun x => stk_same (hs m c) (hr m (prv c)) (1 : Fin 2) (congrArg (fun d => hs m d 1) (nxt_prv c)) _
    (Shape.reshapeEquiv (Shape.Squeezes.numel_eq squeezes_S1x128x1024_S128x1024) x)
  credit := rfl
theorem xfer6 : Xfer m 6 asA' arA' fullShare (fun c => stk (n := 2) (acS m c)) (fun c => stk (n := 2) (acR m c)) where
  src_eq c := by rw [show asA'.view.set = aA.set from set_sq cc0_scratch6 aA (fun _ => rfl) _ squeezes_S1x256x1024_S256x1024]; rfl
  dst_eq c := by rw [show arA'.view.set = aA.set from set_sq cc0_scratch7 aA (fun _ => rfl) _ squeezes_S1x256x1024_S256x1024]; rfl
  lnd_eq c := by rw [show arA'.view.set = aA.set from set_sq cc0_scratch7 aA (fun _ => rfl) _ squeezes_S1x256x1024_S256x1024]; rfl
  reads c := funext fun x => stk_same (acS m c) (acR m (nxt c)) (0 : Fin 2) (congrArg (fun d => acS m d 0) (prv_nxt c)) _
    (Shape.reshapeEquiv (Shape.Squeezes.numel_eq squeezes_S1x256x1024_S256x1024) x)
  credit := rfl
theorem xfer7 : Xfer m 7 asB' arB' fullShare (fun c => stk (n := 2) (acS m c)) (fun c => stk (n := 2) (acR m c)) where
  src_eq c := by rw [show asB'.view.set = aB.set from set_sq cc0_scratch6 aB (fun _ => rfl) _ squeezes_S1x256x1024_S256x1024]; rfl
  dst_eq c := by rw [show arB'.view.set = aB.set from set_sq cc0_scratch7 aB (fun _ => rfl) _ squeezes_S1x256x1024_S256x1024]; rfl
  lnd_eq c := by rw [show arB'.view.set = aB.set from set_sq cc0_scratch7 aB (fun _ => rfl) _ squeezes_S1x256x1024_S256x1024]; rfl
  reads c := funext fun x => stk_same (acS m c) (acR m (prv c)) (1 : Fin 2) (congrArg (fun d => acS m d 1) (nxt_prv c)) _
    (Shape.reshapeEquiv (Shape.Squeezes.numel_eq squeezes_S1x256x1024_S256x1024) x)
  credit := rfl

end Cert.KernelIdealRun

end
-- ==== Proof.KernelIdealReads.lean ====
/-
# 01_k — what each load of the body reads

The buffers the kernel is called with, the value of a load of each slot, and the rules of the accesses the body makes.
-/
module

public import proofs.«01_k».proof.Proof.KernelIdealXfer
public import Idealize.ShloMosaic.Lib.ValueLayout

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A part on the buffers the kernel is called with. -/
abbrev onBufs {β : Type _} (f : ∀ (arg0 : Memref sig .tc .vmem S1x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S256x1024 .bf16) (harg6 : arg6.IsWhole) (arg7 : Memref sig .tc .vmem S3x256x1024 .bf16) (harg7 : arg7.IsWhole) (arg8 : Memref sig .tc .vmem S4x1024x1024 .bf16) (harg8 : arg8.IsWhole) (arg9 : Memref sig .tc .vmem S4x256x1024 .f32) (harg9 : arg9.IsWhole) (arg10 : Memref sig .tc .vmem S2x128x1024 .bf16) (harg10 : arg10.IsWhole) (arg11 : Memref sig .tc .vmem S2x128x1024 .bf16) (harg11 : arg11.IsWhole) (arg12 : Memref sig .tc .vmem S2x256x1024 .bf16) (harg12 : arg12.IsWhole) (arg13 : Memref sig .tc .vmem S2x256x1024 .bf16) (harg13 : arg13.IsWhole) (arg14 : DmaSems sig S4) (arg15 : DmaSems sig S4) (arg16 : DmaSems sig S4) (arg17 : DmaSems sig S4), β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11

/-- The weakest precondition of a program of device `c`. -/
abbrev wpk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Buffer `b` on device `c` holds `f`, whole. -/
abbrev hold (c : Dev nD) (b : Ref sig .tc) (q : PosShare TreeShare) (f : b.ty.Contents (Elt F)) : sProp 𝕄 :=
  ((c : Thread nD τ).loc b) ↦[Finset.univ]{q} (f : Buf (Elt F) ((c : Thread nD τ).loc b))

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = prv c := Fin.ext (k0_dev10_eq c)

/-! ## Whole buffers read and written -/

omit [FloatOps F] in
theorem read_whole (b : Ref sig .tc) {off : Fin b.ty.shape.rank → ℕ} (ho : off = fun _ => 0) (i) (f : b.ty.Contents (Elt F)) :
    ((Memref.whole b).access (Rect.unit off b.ty.shape.size i)).read (Elt F) f = f := Memref.readAt_unit_zero (Elt F) b ho i f

theorem z2 : (![0, 0] : Fin 2 → Nat) = fun _ => 0 := funext fun a => by fin_cases a <;> rfl
theorem z3 : (![0, 0, 0] : Fin 3 → Nat) = fun _ => 0 := funext fun a => by fin_cases a <;> rfl

abbrev mIn : Memref sig .tc .vmem S1x256x1024 .f32 := Memref.whole cc0_stg0_0
abbrev mQ : Memref sig .tc .vmem S1024x1024 .f32 := Memref.whole cc0_stg1_0
abbrev mO : Memref sig .tc .vmem S1024x1024 .f32 := Memref.whole cc0_stg2_0
abbrev mK : Memref sig .tc .vmem S1024x1024 .f32 := Memref.whole cc0_stg3_0
abbrev mV : Memref sig .tc .vmem S1024x1024 .f32 := Memref.whole cc0_stg4_0
abbrev mOut : Memref sig .tc .vmem S1x256x1024 .f32 := Memref.whole cc0_stg5_0
abbrev rB : Rect S1x256x1024 := Rect.unit (s := S1x256x1024) ![0, 0, 0] S1x256x1024.size inb_S1x256x1024_S1x256x1024_0_0_0
abbrev rM : Rect S1024x1024 := Rect.unit (s := S1024x1024) ![0, 0] S1024x1024.size inb_S1024x1024_S1024x1024_0_0
abbrev rX : Rect S256x1024 := Rect.unit (s := S256x1024) ![0, 0] S256x1024.size inb_S256x1024_S256x1024_0_0

omit [FloatOps F] in
theorem rd_in (f : Vec F S1x256x1024 .f32) : (mIn.access rB).read (Elt F) f = f := read_whole cc0_stg0_0 z3 _ _
omit [FloatOps F] in
theorem rd_q (f : Vec F S1024x1024 .f32) : (mQ.access rM).read (Elt F) f = f := read_whole cc0_stg1_0 z2 _ _
omit [FloatOps F] in
theorem rd_o (f : Vec F S1024x1024 .f32) : (mO.access rM).read (Elt F) f = f := read_whole cc0_stg2_0 z2 _ _
omit [FloatOps F] in
theorem rd_k (f : Vec F S1024x1024 .f32) : (mK.access rM).read (Elt F) f = f := read_whole cc0_stg3_0 z2 _ _
omit [FloatOps F] in
theorem rd_v (f : Vec F S1024x1024 .f32) : (mV.access rM).read (Elt F) f = f := read_whole cc0_stg4_0 z2 _ _
omit [FloatOps F] in
theorem rd_out (f : Vec F S1x256x1024 .f32) : (mOut.access rB).read (Elt F) f = f := read_whole cc0_stg5_0 z3 _ _
omit [FloatOps F] in
theorem rd_x (f : Vec F S256x1024 .bf16) : (mX.access rX).read (Elt F) f = f := read_whole cc0_scratch0 z2 _ _

theorem set_x : (mX.access rX).set = Finset.univ := by
  refine (View.set_slice_whole _ _).trans (Finset.eq_univ_of_forall fun x => Rect.mem_set_unit.mpr fun a => ?_)
  match a with
  | ⟨0, _⟩ => exact ⟨Nat.zero_le _, (x 0).isLt.trans_eq (Nat.zero_add _).symm⟩
  | ⟨1, _⟩ => exact ⟨Nat.zero_le _, (x 1).isLt.trans_eq (Nat.zero_add _).symm⟩

/-! ## Slots read -/

abbrev h0 : Fin 2 := 0
abbrev h1 : Fin 2 := 1

section Reads
variable (w : Fin 4 → Vec F S1x1024x1024 .bf16) (p : Fin 4 → Vec F S1x256x1024 .f32) (g : Vec F S3x256x1024 .bf16)
  (h : Fin 2 → Vec F S1x128x1024 .bf16) (a : Fin 2 → Vec F S1x256x1024 .bf16) (u l : Vec F S1x128x1024 .bf16)

omit [FloatOps F] in
theorem rd_w0 : (mW.access w0R).read (Elt F) (stk (n := 4) w) = w 0 := read_stk w 0 _
omit [FloatOps F] in
theorem rd_w1 : (mW.access w1R).read (Elt F) (stk (n := 4) w) = w 1 := read_stk w 1 _
omit [FloatOps F] in
theorem rd_w2 : (mW.access w2R).read (Elt F) (stk (n := 4) w) = w 2 := read_stk w 2 _
omit [FloatOps F] in
theorem rd_w3 : (mW.access w3R).read (Elt F) (stk (n := 4) w) = w 3 := read_stk w 3 _
omit [FloatOps F] in
theorem rd_p0 : (mP.access p0R).read (Elt F) (stk (n := 4) p) = p 0 := read_stk p 0 _
omit [FloatOps F] in
theorem rd_p1 : (mP.access p1R).read (Elt F) (stk (n := 4) p) = p 1 := read_stk p 1 _
omit [FloatOps F] in
theorem rd_p2 : (mP.access p2R).read (Elt F) (stk (n := 4) p) = p 2 := read_stk p 2 _
omit [FloatOps F] in
theorem rd_p3 : (mP.access p3R).read (Elt F) (stk (n := 4) p) = p 3 := read_stk p 3 _
omit [FloatOps F] in
theorem rd_gA : (mG.access gA).read (Elt F) g = slotOf (n := 3) (a := 256) (b := 1024) g 0 := read_slot g (0 : Fin 3) _
omit [FloatOps F] in
theorem rd_gB : (mG.access gB).read (Elt F) g = slotOf (n := 3) (a := 256) (b := 1024) g 1 := read_slot g (1 : Fin 3) _
omit [FloatOps F] in
theorem rd_gC : (mG.access gC).read (Elt F) g = slotOf (n := 3) (a := 256) (b := 1024) g 2 := read_slot g (2 : Fin 3) _
omit [FloatOps F] in
theorem rd_hsA : (mHs.access hA).read (Elt F) (stk (n := 2) h) = h 0 := read_stk h h0 _
omit [FloatOps F] in
theorem rd_hsB : (mHs.access hB).read (Elt F) (stk (n := 2) h) = h 1 := read_stk h h1 _
omit [FloatOps F] in
theorem rd_hrA : (mHr.access hA).read (Elt F) (stk (n := 2) h) = h 0 := read_stk h h0 _
omit [FloatOps F] in
theorem rd_hrB : (mHr.access hB).read (Elt F) (stk (n := 2) h) = h 1 := read_stk h h1 _
omit [FloatOps F] in
theorem rd_arA : (mAr.access aA).read (Elt F) (stk (n := 2) a) = a 0 := read_stk a h0 _
omit [FloatOps F] in
theorem rd_arB : (mAr.access aB).read (Elt F) (stk (n := 2) a) = a 1 := read_stk a h1 _
omit [FloatOps F] in
theorem rd_aAt (e : a 0 = halves u l) : (mAs.access aAt).read (Elt F) (stk (n := 2) a) = u := read_upper a h0 u l e _
omit [FloatOps F] in
theorem rd_aAb (e : a 0 = halves u l) : (mAs.access aAb).read (Elt F) (stk (n := 2) a) = l := read_lower a h0 u l e _
omit [FloatOps F] in
theorem rd_aBt (e : a 1 = halves u l) : (mAs.access aBt).read (Elt F) (stk (n := 2) a) = u := read_upper a h1 u l e _
omit [FloatOps F] in
theorem rd_aBb (e : a 1 = halves u l) : (mAs.access aBb).read (Elt F) (stk (n := 2) a) = l := read_lower a h1 u l e _
end Reads

/-- The cells an access of a whole buffer covers. -/
theorem set_acc (b : Ref sig .tc) (r : Rect b.ty.shape) : ((Memref.whole b).access r).set = r.set := View.set_slice_whole _ _

theorem set_b : (mOut.access rB).set = Finset.univ := by
  refine (View.set_slice_whole _ _).trans (univ_box (s := ![1, 256, 1024]) (o := ![0, 0, 0]) (by decide) (by decide)).symm

/-! ## Loads of the weights; a store after a load that nothing uses -/

variable (c : Dev nD)

/-- The four slots of rounded weights. -/
abbrev wts (w : Fin 4 → Vec F S1x1024x1024 .bf16) : sProp 𝕄 := hold c cc0_scratch2 fullShare (stk (n := 4) w)

section Rules
variable (w : Fin 4 → Vec F S1x1024x1024 .bf16)

theorem ld_w0 {α : Type} {Q : α → sProp 𝕄} {k : Vec F S1x1024x1024 .bf16 → Prog (TpuEff nD τ sig (Elt F) Λ₀ .tc) α} {hl : mW.view.LoadsAt w0R.toLoadRect} :
    wts c w ⊢ iprop((wts c w -∗ wpk c (k (w 0)) Q) -∗ wpk c (.op (.load mW w0R.toLoadRect hl) k) Q) :=
  wp_ld c mW w0R Finset.univ (Finset.subset_univ _) fullShare _ _ (rd_w0 w)
theorem ld_w1 {α : Type} {Q : α → sProp 𝕄} {k : Vec F S1x1024x1024 .bf16 → Prog (TpuEff nD τ sig (Elt F) Λ₀ .tc) α} {hl : mW.view.LoadsAt w1R.toLoadRect} :
    wts c w ⊢ iprop((wts c w -∗ wpk c (k (w 1)) Q) -∗ wpk c (.op (.load mW w1R.toLoadRect hl) k) Q) :=
  wp_ld c mW w1R Finset.univ (Finset.subset_univ _) fullShare _ _ (rd_w1 w)
theorem ld_w2 {α : Type} {Q : α → sProp 𝕄} {k : Vec F S1x1024x1024 .bf16 → Prog (TpuEff nD τ sig (Elt F) Λ₀ .tc) α} {hl : mW.view.LoadsAt w2R.toLoadRect} :
    wts c w ⊢ iprop((wts c w -∗ wpk c (k (w 2)) Q) -∗ wpk c (.op (.load mW w2R.toLoadRect hl) k) Q) :=
  wp_ld c mW w2R Finset.univ (Finset.subset_univ _) fullShare _ _ (rd_w2 w)
theorem ld_w3 {α : Type} {Q : α → sProp 𝕄} {k : Vec F S1x1024x1024 .bf16 → Prog (TpuEff nD τ sig (Elt F) Λ₀ .tc) α} {hl : mW.view.LoadsAt w3R.toLoadRect} :
    wts c w ⊢ iprop((wts c w -∗ wpk c (k (w 3)) Q) -∗ wpk c (.op (.load mW w3R.toLoadRect hl) k) Q) :=
  wp_ld c mW w3R Finset.univ (Finset.subset_univ _) fullShare _ _ (rd_w3 w)
end Rules

/-- A store over a piece held exactly, after a load of the piece whose value is dropped. -/
theorem wp_ldst {s : Shape} {e : EltTy} (M : Memref sig .tc .vmem s e) (r : Rect s) (S : Finset M.view.ref.ty.Idx) (hS : (M.access r).set = S)
    (g : M.view.ref.ty.Contents (Elt F)) (w : r.shape.Idx → Elt F e) (hw : (M.access r).read (Elt F) g = w)
    {hl : M.view.LoadsAt r.toLoadRect} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (iprop(∃ f, M.view.loc (c : Thread nD τ) ↦[S]{fullShare} f) : sProp 𝕄)
      ⊢ iprop(((M.view.loc (c : Thread nD τ) ↦[S]{fullShare} g) -∗ wpk c (k ⟨⟩) Q)
          -∗ wpk c (.op (.load M r.toLoadRect hl) fun _ => .op (.store M r w Finset.univ hx hm) k) Q) := by
  unfold wpk
  iintro ⟨%f, H⟩ Hk
  iapply (wp_ld c M r S hS.subset fullShare f _ rfl) $$ H
  iintro H
  iapply (wp_st c M r S hS f g w hw) $$ H
  iexact Hk

end Cert.KernelIdealRun

end
-- ==== Proof.KernelIdealLoads.lean ====
/-
# 01_k — the body, the parts that compute

Between the copies the body computes this device's four contributions; each part loads weights and passes values on.
-/
module

public import proofs.«01_k».proof.Proof.KernelIdealReads

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ) (c : Dev nD)

/-! ## Parts that only load weights -/

section Loads
variable (w : Fin 4 → Vec F S1x1024x1024 .bf16)

theorem part5_run (q k v : FVec F S256x1024 .bf16) (l : FVec F S256x1 .f32) (e : FVec F S256x256 .bf16) (u : FVec F S256x128 .bf16) (z : FVec F S256x128 .f32) {Q : (Σ' (_ : FVec F S256x1024 .f32), FVec F S256x128 .f32) → sProp 𝕄} :
    wts c w ⊢ iprop((wts c w -∗ Q ⟨k0_pay15 q k v l e u z (w 3) (w 3), k0_pay16 q k v⟩) -∗ wpk c (onBufs (k0_part5 (F := F)) q k v l e u z) Q) := by
  unfold wpk onBufs
  rw [k0_part5_eq_skeleton]; unfold k0_part5_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part6_run (q k v : FVec F S256x1024 .bf16) (o : FVec F S256x1024 .f32) (a : FVec F S256x128 .f32) {Q : (Σ' (_ : FVec F S256x1024 .f32), FVec F S256x128 .bf16) → sProp 𝕄} :
    wts c w ⊢ iprop((wts c w -∗ Q ⟨k0_pay17 q k v o a (w 3) (w 3), k0_pay18 q k v⟩) -∗ wpk c (onBufs (k0_part6 (F := F)) q k v o a) Q) := by
  unfold wpk onBufs
  rw [k0_part6_eq_skeleton]; unfold k0_part6_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part7_run (q k v : FVec F S256x1024 .bf16) (o : FVec F S256x1024 .f32) (a : FVec F S256x128 .bf16) {Q : (Σ' (_ : FVec F S256x1024 .f32), FVec F S256x128 .bf16) → sProp 𝕄} :
    wts c w ⊢ iprop((wts c w -∗ Q ⟨k0_pay19 q k v o a (w 3) (w 3), k0_pay20 q k v⟩) -∗ wpk c (onBufs (k0_part7 (F := F)) q k v o a) Q) := by
  unfold wpk onBufs
  rw [k0_part7_eq_skeleton]; unfold k0_part7_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part9_run (y q : FVec F S256x1024 .bf16) (b : FVec F S1024x1024 .bf16) {Q : (Σ' (_ : FVec F S256x1024 .bf16) (_ : FVec F S256x1024 .bf16) (_ : FVec F S256x1024 .f32), FVec F S256x128 .bf16) → sProp 𝕄} :
    wts c w ⊢ iprop((wts c w -∗ Q ⟨k0_pay25 y b, k0_pay26 y (w 2), k0_pay27 y q b (w 2) (w 3), k0_pay28 y q b (w 2)⟩) -∗ wpk c (onBufs (k0_part9 (F := F)) y q b) Q) := by
  unfold wpk onBufs
  rw [k0_part9_eq_skeleton]; unfold k0_part9_skel
  simp only [Prog.lift, Prog.bind_op, Prog.bind_ret, Prog.pure_eq_ret, Prog.bind_assoc, wp_deviceId]
  iintro HW HQ
  iapply (ld_w2 c w) $$ HW; iintro HW
  iapply (ld_w3 c w) $$ HW; iintro HW
  unfold wpk
  rw [wp_ret]; imodintro
  iapply HQ
  iexact HW

theorem part10_run (q k v : FVec F S256x1024 .bf16) (o : FVec F S256x1024 .f32) (a : FVec F S256x128 .bf16) {Q : (Σ' (_ : FVec F S256x1024 .f32), FVec F S256x128 .bf16) → sProp 𝕄} :
    wts c w ⊢ iprop((wts c w -∗ Q ⟨k0_pay29 q k v o a (w 3) (w 3), k0_pay30 q k v⟩) -∗ wpk c (onBufs (k0_part10 (F := F)) q k v o a) Q) := by
  unfold wpk onBufs
  rw [k0_part10_eq_skeleton]; unfold k0_part10_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part11_run (q k v : FVec F S256x1024 .bf16) (o : FVec F S256x1024 .f32) (a : FVec F S256x128 .bf16) {Q : (Σ' (_ : FVec F S256x1024 .f32) (_ : FVec F S256x128 .bf16), FVec F S1024x1024 .bf16) → sProp 𝕄} :
    wts c w ⊢ iprop((wts c w -∗ Q ⟨k0_pay31 q k v o a (w 3) (w 3), k0_pay32 q k v, k0_pay33 (w 3)⟩) -∗ wpk c (onBufs (k0_part11 (F := F)) q k v o a) Q) := by
  unfold wpk onBufs
  rw [k0_part11_eq_skeleton]; unfold k0_part11_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  iapply (ld_w3 c w) $$ HW; iintro HW
  unfold wpk
  rw [wp_ret]; imodintro
  iapply HQ
  iexact HW

theorem part12_run (q k v : FVec F S256x1024 .bf16) (o : FVec F S256x1024 .f32) (a : FVec F S256x128 .bf16) (b : FVec F S1024x1024 .bf16) {Q : (Σ' (_ : FVec F S256x1024 .f32) (_ : FVec F S256x128 .bf16) (_ : FVec F S128x1024 .bf16), FVec F S256x1024 .f32) → sProp 𝕄} :
    wts c w ⊢ iprop((wts c w -∗ Q ⟨k0_pay34 q k v o a b (w 3), k0_pay35 q k v, k0_pay36 (w 3), constant S256x1024 .f32 0x00000000#32⟩) -∗ wpk c (onBufs (k0_part12 (F := F)) q k v o a b) Q) := by
  unfold wpk onBufs
  rw [k0_part12_eq_skeleton]; unfold k0_part12_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part14_run (y q : FVec F S256x1024 .bf16) {Q : (Σ' (_ : FVec F S256x1024 .bf16) (_ : FVec F S256x1024 .bf16) (_ : FVec F S256x1024 .f32) (_ : FVec F S256x1 .f32) (_ : FVec F S256x256 .bf16) (_ : FVec F S256x128 .bf16), FVec F S256x128 .f32) → sProp 𝕄} :
    wts c w ⊢ iprop((wts c w -∗ Q ⟨k0_pay40 y (w 1), k0_pay41 y (w 2), k0_pay42 y q (w 1) (w 2) (w 3), k0_pay44 y q (w 1), k0_pay45 y q (w 1), k0_pay46 y (w 2), constant S256x128 .f32 0x00000000#32⟩) -∗ wpk c (onBufs (k0_part14 (F := F)) y q) Q) := by
  unfold wpk onBufs
  rw [k0_part14_eq_skeleton]; unfold k0_part14_skel
  simp only [Prog.lift, Prog.bind_op, Prog.bind_ret, Prog.pure_eq_ret, Prog.bind_assoc, wp_deviceId]
  iintro HW HQ
  iapply (ld_w1 c w) $$ HW; iintro HW
  iapply (ld_w2 c w) $$ HW; iintro HW
  iapply (ld_w3 c w) $$ HW; iintro HW
  unfold wpk
  rw [wp_ret]; imodintro
  iapply HQ
  iexact HW

theorem part15_run (q k v : FVec F S256x1024 .bf16) (o : FVec F S256x1024 .f32) (l : FVec F S256x1 .f32) (e : FVec F S256x256 .bf16) (u : FVec F S256x128 .bf16) (z : FVec F S256x128 .f32) {Q : (Σ' (_ : FVec F S256x1024 .f32) (_ : FVec F S256x128 .f32), FVec F S256x128 .f32) → sProp 𝕄} :
    wts c w ⊢ iprop((wts c w -∗ Q ⟨k0_pay47 q k v o l e u z (w 3) (w 3), k0_pay49 q k v, k0_pay50 q k⟩) -∗ wpk c (onBufs (k0_part15 (F := F)) q k v o l e u z) Q) := by
  unfold wpk onBufs
  rw [k0_part15_eq_skeleton]; unfold k0_part15_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part16_run (q k v : FVec F S256x1024 .bf16) (o : FVec F S256x1024 .f32) (a b : FVec F S256x128 .f32) {Q : (Σ' (_ : FVec F S256x1024 .f32), FVec F S256x128 .bf16) → sProp 𝕄} :
    wts c w ⊢ iprop((wts c w -∗ Q ⟨k0_pay51 q k v o a b (w 3) (w 3), k0_pay52 q k v⟩) -∗ wpk c (onBufs (k0_part16 (F := F)) q k v o a b) Q) := by
  unfold wpk onBufs
  rw [k0_part16_eq_skeleton]; unfold k0_part16_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part17_run (q k v : FVec F S256x1024 .bf16) (o : FVec F S256x1024 .f32) (a : FVec F S256x128 .bf16) {Q : (Σ' (_ : FVec F S256x1024 .f32), FVec F S256x128 .bf16) → sProp 𝕄} :
    wts c w ⊢ iprop((wts c w -∗ Q ⟨k0_pay53 q k v o a (w 3) (w 3), k0_pay54 q k v⟩) -∗ wpk c (onBufs (k0_part17 (F := F)) q k v o a) Q) := by
  unfold wpk onBufs
  rw [k0_part17_eq_skeleton]; unfold k0_part17_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part20_run (q k v : FVec F S256x1024 .bf16) (s : FVec F S256x256 .f32) {Q : (Σ' (_ : FVec F S256x1024 .f32) (_ : FVec F S256x256 .f32), FVec F S256 .f32) → sProp 𝕄} :
    wts c w ⊢ iprop((wts c w -∗ Q ⟨k0_pay62 q k v s (w 3) (w 3), k0_pay63 q k, k0_pay64 q k⟩) -∗ wpk c (onBufs (k0_part20 (F := F)) q k v s) Q) := by
  unfold wpk onBufs
  rw [k0_part20_eq_skeleton]; unfold k0_part20_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part21_run (q k v : FVec F S256x1024 .bf16) (o : FVec F S256x1024 .f32) (s : FVec F S256x256 .f32) (r : FVec F S256 .f32) {Q : (Σ' (_ : FVec F S256x1024 .f32) (_ : FVec F S256x1 .f32), FVec F S256x256 .bf16) → sProp 𝕄} :
    wts c w ⊢ iprop((wts c w -∗ Q ⟨k0_pay65 q k v o s r (w 3) (w 3), k0_pay67 q k, k0_pay68 q k⟩) -∗ wpk c (onBufs (k0_part21 (F := F)) q k v o s r) Q) := by
  unfold wpk onBufs
  rw [k0_part21_eq_skeleton]; unfold k0_part21_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

theorem part22_run (q k v : FVec F S256x1024 .bf16) (o : FVec F S256x1024 .f32) (l : FVec F S256x1 .f32) (e : FVec F S256x256 .bf16) {Q : (Σ' (_ : FVec F S256x1024 .f32) (_ : FVec F S256x1 .f32) (_ : FVec F S256x256 .bf16) (_ : FVec F S256x128 .bf16), FVec F S256x128 .f32) → sProp 𝕄} :
    wts c w ⊢ iprop((wts c w -∗ Q ⟨k0_pay69 q k v o l e (w 3) (w 3), k0_pay71 q k, k0_pay72 q k, k0_pay73 v, constant S256x128 .f32 0x00000000#32⟩) -∗ wpk c (onBufs (k0_part22 (F := F)) q k v o l e) Q) := by
  unfold wpk onBufs
  rw [k0_part22_eq_skeleton]; unfold k0_part22_skel
  simp only [Prog.lift, Prog.bind_op, Prog.bind_ret, Prog.pure_eq_ret, Prog.bind_assoc, wp_deviceId]
  iintro HW HQ
  iapply (ld_w3 c w) $$ HW; iintro HW
  iapply (ld_w3 c w) $$ HW; iintro HW
  unfold wpk
  rw [wp_ret]; imodintro
  iapply HQ
  iexact HW

end Loads

end Cert.KernelIdealRun

end
-- ==== Proof.KernelIdealBody.lean ====
/-
# 01_k — the body, part by part

The program's body is printed in parts. Each has its own lemma: from the pieces of buffers it touches, with what it owes
and the tokens it sends and waits with, to the same pieces afterwards and the values it passes on.
-/
module

public import proofs.«01_k».proof.Proof.KernelIdealReads
public import Idealize.ShloMosaic.Lib.ValueLayout

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ) (c : Dev nD)

theorem ow_open (O : CellTallies nD τ sig Unit) : (ow c O : sProp 𝕄) ⊢ iprop(∃ W, owes (c : Thread nD τ) O W) := .rfl
theorem ow_close (O : CellTallies nD τ sig Unit) (W) : (owes (c : Thread nD τ) O W : sProp 𝕄) ⊢ ow c O := by
  unfold ow; iintro H; iexists W; iexact H
theorem to_src0 : (hold c cc0_scratch0 fullShare.left (xb m c)) ⊢ srcP m 0 c := .rfl
theorem to_src1 : (hold c cc0_scratch0 fullShare.right.left (xb m c)) ⊢ srcP m 1 c := .rfl

/-! ## Parts 1 to 3: meet the neighbours, send the activations, round the weights -/

set_option maxHeartbeats 800000 in
theorem part1_run {Q : (Σ' (d0 : Dev nD) (v4 : BitVec 32), BitVec 32) → sProp 𝕄} :
    iprop(records m K ∗ levAts L lv ∗ ow c (O₀ c) ∗ (dutyTok ER (barCell (prv c)) 0 true ∗ dutyTok ER (barCell (nxt c)) 0 false)
        ∗ (atPos ER (barCell c) 0 ∅ 0 ∗ cred (tallyAt (barCell c) () 2))
        ∗ (dstP 0 c ∗ dstP 2 c ∗ dstP 4 c ∗ dstP 6 c) ∗ (dstP 1 c ∗ dstP 3 c ∗ dstP 5 c ∗ dstP 7 c)
        ∗ sndG 0 c ∗ hold c cc0_stg0_0 fullShare (xIn m c) ∗ (∃ f, hold c cc0_scratch0 fullShare f))
      ⊢ iprop((∀ v4 v6, (ow c (OX [1, 2, 3, 4, 5, 6, 7] c) ∗ semVal (barCell c) 0
          ∗ (dstP 2 (nxt c) ∗ dstP 4 (nxt c) ∗ dstP 6 (nxt c)) ∗ (dstP 1 (prv c) ∗ dstP 3 (prv c) ∗ dstP 5 (prv c) ∗ dstP 7 (prv c))
          ∗ sntG 0 c ∗ hold c cc0_stg0_0 fullShare (xIn m c) ∗ srcP m 1 c ∗ hold c cc0_scratch0 fullShare.right.right (xb m c)) -∗ Q ⟨c, v4, v6⟩)
        -∗ wpk c (onBufs (k0_part1 (F := F))) Q) := by
  unfold wpk onBufs
  rw [k0_part1_eq_skeleton]; unfold k0_part1_skel
  simp only [semSignalWord, semWaitWord, Prog.lift, Prog.bind_op, Prog.bind_ret, Prog.pure_eq_ret, Prog.bind_assoc, wp_deviceId]
  simp only [dev1_eq c, dev2_eq c]
  iintro ⟨#HR, #HL, HO, ⟨Ht1, Ht2⟩, ⟨Hat, Hc⟩, He, Hodd, Hs, Hx, ⟨%f0, Hxl⟩⟩ Hk
  ihave HO1 := (ow_open c (O₀ c)) $$ HO
  icases HO1 with ⟨%W, HO⟩
  unfold O₀
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) () (O₁ c) rfl)
    $$ [HO Ht1 He]
  · isplitr; · iapply (inv_at m K (prv c, 0)); iexact HR
    isplitl [HO]; · iexact HO
    isplitl [Ht1]; · iexact Ht1
    isplitl [He]
    · rw [payload_bar_true]; unfold barPayT; rw [nxt_prv]; iexact He
    · iapply (reached_at m K (prv c, 0)); iexact HR
  iintro HO
  unfold O₁
  iapply (Rounds.wp_signal 𝒱₀ ER (ringRd m) (c : Thread nD τ) none (dst := (nxt c : Thread nD τ)) (κ := K (nxt c, 0))
      (d := false) (by rw [duties_bar]; exact Finset.mem_univ _) ((amount_bar m (nxt c) false).trans (by decide)) () (OX all8 c) rfl)
    $$ [HO Ht2 Hodd]
  · isplitr; · iapply (inv_at m K (nxt c, 0)); iexact HR
    isplitl [HO]; · iexact HO
    isplitl [Ht2]; · iexact Ht2
    isplitl [Hodd]
    · rw [payload_bar_false]; unfold barPayF; rw [prv_nxt]; iexact Hodd
    · iapply (reached_at m K (nxt c, 0)); iexact HR
  iintro HO
  iapply (Rounds.wp_wait_rest_token 𝒱₀ ER (ringRd m) (c : Thread nD τ) none (κ := K (c, 0))
      (wpE_semWait_eq 𝒱₀ (c : Thread nD τ) none Set.univ) (Set.mem_univ _) () (O := OX all8 c) (W := W) (R := 0) (m := 0) (T := ∅)
      (by rw [expect_bar]; decide)) $$ [Hc HO Hat]
  · isplitr; · iapply (inv_at m K (c, 0)); iexact HR
    isplitl [Hc]; · iexact Hc
    isplitl [HO]; · iexact HO
    isplitr; · iapply (mayWait_bar c); iexact HL
    iexact Hat
  iintro ⟨HO, Hat, -, Hpay⟩
  imod (Rounds.cell_close ER (ringRd m) (Set.mem_univ (K (c, 0))) (fun h => h) (R := 0 + 1) (duties_later m (barCell c))) $$ [Hat] with Hz
  · isplitr; · iapply (inv_at m K (c, 0)); iexact HR
    iexact Hat
  ihave Hp2 := (Entails.of_eq (rest_bar m c)) $$ Hpay
  unfold barPayF barPayT
  icases Hp2 with ⟨HF, HT0, HT⟩
  iapply (wp_ld c mIn rB Finset.univ (Finset.subset_univ _) fullShare (xIn m c) (xIn m c) (rd_in _)) $$ Hx
  iintro Hx
  iapply (wp_ld c mX rX Finset.univ (Finset.subset_univ _) fullShare f0 _ rfl) $$ Hxl
  iintro Hxl
  iapply (wp_st c mX rX Finset.univ set_x f0 (xb m c) (k0_pay1 (xIn m c)) (rd_x _)) $$ Hxl
  iintro Hxl
  ihave Hxl2 := (pointsTo_share (PosShare.mem_left_op_right fullShare)).1 $$ Hxl
  icases Hxl2 with ⟨HxL, HxR⟩
  ihave Hxl3 := (pointsTo_share (PosShare.mem_left_op_right fullShare.right)).1 $$ HxR
  icases Hxl3 with ⟨HxRL, HxRR⟩
  iapply (wp_snd m K (xfer0 m) c _ (dev3_eq c) _ _ rfl rfl [1, 2, 3, 4, 5, 6, 7]) $$ [HxL HT0 HO Hs]
  · isplitr; · iexact HR
    isplitl [HxL]; · iapply (to_src0 m c); iexact HxL
    isplitl [HT0]; · iexact HT0
    isplitl [HO]; · iapply (ow_close c _ _); iexact HO
    iexact Hs
  iintro ⟨Hs, HO⟩
  rw [wp_ret]; imodintro
  iapply Hk
  isplitl [HO]; · iexact HO
  isplitl [Hz]; · iexact Hz
  isplitl [HT]; · iexact HT
  isplitl [HF]; · iexact HF
  isplitl [Hs]; · iexact Hs
  isplitl [Hx]; · iexact Hx
  isplitl [HxRL]; · iapply (to_src1 m c); iexact HxRL
  iexact HxRR

abbrev woB : FVec F S1024x1024 .bf16 := k0_pay5 (woIn m c)

set_option maxHeartbeats 800000 in
theorem part2_run (v4 : BitVec 32) {Q : FVec F S1024x1024 .bf16 → sProp 𝕄} :
    iprop(records m K ∗ srcP m 1 c ∗ dstP 1 (prv c) ∗ ow c (OX [1, 2, 3, 4, 5, 6, 7] c) ∗ sndG 1 c
        ∗ (∃ f, rg c cc0_scratch2 w0R fullShare f) ∗ (∃ f, rg c cc0_scratch2 w1R fullShare f) ∗ (∃ f, rg c cc0_scratch2 w2R fullShare f)
        ∗ hold c cc0_stg1_0 fullShare (wqIn m c) ∗ hold c cc0_stg3_0 fullShare (wkIn m c) ∗ hold c cc0_stg4_0 fullShare (wvIn m c) ∗ hold c cc0_stg2_0 fullShare (woIn m c))
      ⊢ iprop(((ow c (OX [2, 3, 4, 5, 6, 7] c) ∗ sntG 1 c
          ∗ rg c cc0_scratch2 w0R fullShare (stk (n := 4) (wb m c)) ∗ rg c cc0_scratch2 w1R fullShare (stk (n := 4) (wb m c)) ∗ rg c cc0_scratch2 w2R fullShare (stk (n := 4) (wb m c))
          ∗ hold c cc0_stg1_0 fullShare (wqIn m c) ∗ hold c cc0_stg3_0 fullShare (wkIn m c) ∗ hold c cc0_stg4_0 fullShare (wvIn m c) ∗ hold c cc0_stg2_0 fullShare (woIn m c)) -∗ Q (woB m c))
        -∗ wpk c (onBufs (k0_part2 (F := F)) c v4) Q) := by
  unfold wpk onBufs
  rw [k0_part2_eq_skeleton]; unfold k0_part2_skel
  simp only [Prog.lift, Prog.bind_op, Prog.bind_ret, Prog.pure_eq_ret, Prog.bind_assoc, wp_deviceId]
  iintro ⟨#HR, HS, HD, HO, Hs, H0, H1, H2, Hq, Hk, Hv, Ho⟩ HQ
  iapply (wp_snd m K (xfer1 m) c _ (dev4_eq c) _ _ rfl rfl [2, 3, 4, 5, 6, 7]) $$ [HS HD HO Hs]
  · isplitr; · iexact HR
    isplitl [HS]; · iexact HS
    isplitl [HD]; · iexact HD
    isplitl [HO]; · iexact HO
    iexact Hs
  iintro ⟨Hs, HO⟩
  iapply (wp_ld c mQ rM Finset.univ (Finset.subset_univ _) fullShare (wqIn m c) (wqIn m c) (rd_q _)) $$ Hq
  iintro Hq
  iapply (wp_ldst c mW w0R w0R.set (set_acc _ _) (stk (n := 4) (wb m c)) (k0_pay2 (wqIn m c)) (rd_w0 (wb m c))) $$ H0
  iintro H0
  iapply (wp_ld c mK rM Finset.univ (Finset.subset_univ _) fullShare (wkIn m c) (wkIn m c) (rd_k _)) $$ Hk
  iintro Hk
  iapply (wp_ldst c mW w1R w1R.set (set_acc _ _) (stk (n := 4) (wb m c)) (k0_pay3 (wkIn m c)) (rd_w1 (wb m c))) $$ H1
  iintro H1
  iapply (wp_ld c mV rM Finset.univ (Finset.subset_univ _) fullShare (wvIn m c) (wvIn m c) (rd_v _)) $$ Hv
  iintro Hv
  iapply (wp_ldst c mW w2R w2R.set (set_acc _ _) (stk (n := 4) (wb m c)) (k0_pay4 (wvIn m c)) (rd_w2 (wb m c))) $$ H2
  iintro H2
  iapply (wp_ld c mO rM Finset.univ (Finset.subset_univ _) fullShare (woIn m c) (woIn m c) (rd_o _)) $$ Ho
  iintro Ho
  rw [wp_ret]; imodintro
  iapply HQ
  isplitl [HO]; · iexact HO
  isplitl [Hs]; · iexact Hs
  isplitl [H0]; · iexact H0
  isplitl [H1]; · iexact H1
  isplitl [H2]; · iexact H2
  isplitl [Hq]; · iexact Hq
  isplitl [Hk]; · iexact Hk
  isplitl [Hv]; · iexact Hv
  iexact Ho

theorem from_lnd0 : lndP m 0 c ⊢ rg c cc0_scratch1 gA fullShare (xg m c) := .rfl
theorem from_lnd1 : lndP m 1 c ⊢ rg c cc0_scratch1 gB fullShare (xg m c) := .rfl
theorem from_lnd2 : lndP m 2 c ⊢ rg c cc0_scratch1 gCt fullShare (xg m c) := .rfl
theorem from_lnd3 : lndP m 3 c ⊢ rg c cc0_scratch1 gCb fullShare (xg m c) := .rfl
theorem to_src2 : rg c cc0_scratch1 gAt fullShare.left (xg m c) ⊢ srcP m 2 c := .rfl
theorem to_src3 : rg c cc0_scratch1 gBb fullShare.left (xg m c) ⊢ srcP m 3 c := .rfl

set_option maxHeartbeats 800000 in
theorem part3_run (v4 v6 : BitVec 32) {Q : BitVec 32 → sProp 𝕄} :
    iprop(records m K ∗ levAts L lv ∗ ow c (OX [2, 3, 4, 5, 6, 7] c) ∗ (∃ f, rg c cc0_scratch2 w3R fullShare f)
        ∗ rcvG 0 c ∗ rcvG 1 c ∗ sndG 2 c ∗ dstP 2 (nxt c))
      ⊢ iprop((∀ v, (ow c (OX [3, 4, 5, 6, 7] c) ∗ rg c cc0_scratch2 w3R fullShare (stk (n := 4) (wb m c))
          ∗ semVal (rCell 0 c) 0 ∗ semVal (rCell 1 c) 0 ∗ sntG 2 c
          ∗ rg c cc0_scratch1 gA fullShare.right (xg m c) ∗ rg c cc0_scratch1 gAb fullShare.left (xg m c) ∗ lndP m 1 c) -∗ Q v)
        -∗ wpk c (onBufs (k0_part3 (F := F)) c v4 v6 (woB m c)) Q) := by
  unfold wpk onBufs
  rw [k0_part3_eq_skeleton]; unfold k0_part3_skel
  simp only [Prog.lift, Prog.bind_op, Prog.bind_ret, Prog.pure_eq_ret, Prog.bind_assoc, wp_deviceId]
  iintro ⟨#HR, #HL, HO, H3, Hr0, Hr1, Hs, HD⟩ HQ
  iapply (wp_ldst c mW w3R w3R.set (set_acc _ _) (stk (n := 4) (wb m c)) (k0_pay6 (woB m c)) (rd_w3 (wb m c))) $$ H3
  iintro H3
  iapply (wp_rcv m K 0 c _ rfl [2, 3, 4, 5, 6, 7] (by decide) (xfer0 m).credit) $$ [HO Hr0]
  · isplitr; · iexact HR
    isplitr; · iexact HL
    isplitl [HO]; · iexact HO
    iexact Hr0
  iintro ⟨HO, Hz0, Hl⟩
  ihave Hl1 := (from_lnd0 m c) $$ Hl
  ihave Hl2 := (pointsTo_share (PosShare.mem_left_op_right fullShare)).1 $$ Hl1
  icases Hl2 with ⟨HgL, HgR⟩
  ihave Hl3 := (rg_split c cc0_scratch1 gA_cut.1 gA_cut.2 fullShare.left (xg m c)).1 $$ HgL
  icases Hl3 with ⟨HgT, HgB⟩
  iapply (wp_snd m K (xfer2 m) c _ (dev5_eq c) _ _ rfl rfl [3, 4, 5, 6, 7]) $$ [HgT HD HO Hs]
  · isplitr; · iexact HR
    isplitl [HgT]; · iapply (to_src2 m c); iexact HgT
    isplitl [HD]; · iexact HD
    isplitl [HO]; · iexact HO
    iexact Hs
  iintro ⟨Hs, HO⟩
  iapply (wp_rcv m K 1 c _ rfl [3, 4, 5, 6, 7] (by decide) (xfer1 m).credit) $$ [HO Hr1]
  · isplitr; · iexact HR
    isplitr; · iexact HL
    isplitl [HO]; · iexact HO
    iexact Hr1
  iintro ⟨HO, Hz1, Hl⟩
  rw [wp_ret]; imodintro
  iapply HQ
  isplitl [HO]; · iexact HO
  isplitl [H3]; · iexact H3
  isplitl [Hz0]; · iexact Hz0
  isplitl [Hz1]; · iexact Hz1
  isplitl [Hs]; · iexact Hs
  isplitl [HgR]; · iexact HgR
  isplitl [HgB]; · iexact HgB
  iexact Hl

end Cert.KernelIdealRun

end
-- ==== Proof.KernelIdealExchange.lean ====
/-
# 01_k — the body, the parts that copy

The parts that send, wait or store. A part that stores a contribution takes the equation that says the stored payload is
that contribution.
-/
module

public import proofs.«01_k».proof.Proof.KernelIdealBody

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ) (c : Dev nD)

/-- Slot `j` of the gathered activations, -/
abbrev gx (j : Fin 3) : Vec F S1x256x1024 .bf16 := slotOf (n := 3) (a := 256) (b := 1024) (xg m c) j
/-- a piece of the contributions, holding what it will, -/
abbrev pPt (r : Rect S4x256x1024) : sProp 𝕄 := rg c cc0_scratch3 r fullShare (stk (n := 4) (pt m c))
/-- and holding anything. -/
abbrev pAny (r : Rect S4x256x1024) : sProp 𝕄 := iprop(∃ f, rg (F := F) c cc0_scratch3 r fullShare f)
/-- The same for the halves to be sent, -/
abbrev hPt (r : Rect S2x128x1024) : sProp 𝕄 := rg c cc0_scratch4 r fullShare (stk (n := 2) (hs m c))
abbrev hAny (r : Rect S2x128x1024) : sProp 𝕄 := iprop(∃ f, rg (F := F) c cc0_scratch4 r fullShare f)
/-- and the sums to be sent. -/
abbrev aPt (r : Rect S2x256x1024) : sProp 𝕄 := rg c cc0_scratch6 r fullShare (stk (n := 2) (acS m c))
abbrev aAny (r : Rect S2x256x1024) : sProp 𝕄 := iprop(∃ f, rg (F := F) c cc0_scratch6 r fullShare f)
/-- Slots of what is received: activations, halves, sums. -/
abbrev gPt (r : Rect S3x256x1024) (q : PosShare TreeShare) : sProp 𝕄 := rg c cc0_scratch1 r q (xg m c)
abbrev hrPt (r : Rect S2x128x1024) : sProp 𝕄 := rg c cc0_scratch5 r fullShare (stk (n := 2) (hr m c))
abbrev arPt (r : Rect S2x256x1024) : sProp 𝕄 := rg c cc0_scratch7 r fullShare (stk (n := 2) (acR m c))

theorem to_src4 : hPt m c hA ⊢ srcP m 4 c := .rfl
theorem to_src5 : hPt m c hB ⊢ srcP m 5 c := .rfl
theorem to_src6 : aPt m c aA ⊢ srcP m 6 c := .rfl
theorem to_src7 : aPt m c aB ⊢ srcP m 7 c := .rfl
theorem from_lnd4 : lndP m 4 c ⊢ hrPt m c hA := .rfl
theorem from_lnd5 : lndP m 5 c ⊢ hrPt m c hB := .rfl
theorem from_lnd6 : lndP m 6 c ⊢ arPt m c aA := .rfl
theorem from_lnd7 : lndP m 7 c ⊢ arPt m c aB := .rfl

set_option maxHeartbeats 800000 in
theorem part4_run (v82 : BitVec 32) {Q : (Σ' (_ : FVec F S256x1024 .bf16) (_ : FVec F S256x1024 .bf16) (_ : FVec F S256x1024 .bf16) (_ : FVec F S256x1 .f32) (_ : FVec F S256x256 .bf16) (_ : FVec F S256x128 .bf16), FVec F S256x128 .f32) → sProp 𝕄} :
    iprop(records m K ∗ ow c (OX [3, 4, 5, 6, 7] c) ∗ lndP m 1 c ∗ dstP 3 (prv c) ∗ sndG 3 c ∗ gPt m c gA fullShare.right ∗ wts c (wb m c))
      ⊢ iprop(((ow c (OX [4, 5, 6, 7] c) ∗ gPt m c gB fullShare.right ∗ gPt m c gBt fullShare.left ∗ sntG 3 c ∗ gPt m c gA fullShare.right ∗ wts c (wb m c)) -∗ Q ⟨k0_pay8 (gx m c 0) (wb m c 0), k0_pay9 (gx m c 0) (wb m c 1), k0_pay10 (gx m c 0) (wb m c 2), k0_pay12 (gx m c 0) (wb m c 0) (wb m c 1), k0_pay13 (gx m c 0) (wb m c 0) (wb m c 1), k0_pay14 (gx m c 0) (wb m c 2), constant S256x128 .f32 0x00000000#32⟩)
        -∗ wpk c (onBufs (k0_part4 (F := F)) c v82) Q) := by
  unfold wpk onBufs
  rw [k0_part4_eq_skeleton]; unfold k0_part4_skel
  simp only [Prog.lift, Prog.bind_op, Prog.bind_ret, Prog.pure_eq_ret, Prog.bind_assoc, wp_deviceId]
  iintro ⟨#HR, HO, Hl, HD, Hs, HA, HW⟩ HQ
  ihave Hl1 := (from_lnd1 m c) $$ Hl
  ihave Hl2 := (pointsTo_share (PosShare.mem_left_op_right fullShare)).1 $$ Hl1
  icases Hl2 with ⟨HgL, HgR⟩
  ihave Hl3 := (rg_split c cc0_scratch1 gB_cut.1 gB_cut.2 fullShare.left (xg m c)).1 $$ HgL
  icases Hl3 with ⟨HgT, HgB⟩
  iapply (wp_snd m K (xfer3 m) c _ (dev6_eq c) _ _ rfl rfl [4, 5, 6, 7]) $$ [HgB HD HO Hs]
  · isplitr; · iexact HR
    isplitl [HgB]; · iapply (to_src3 m c); iexact HgB
    isplitl [HD]; · iexact HD
    isplitl [HO]; · iexact HO
    iexact Hs
  iintro ⟨Hs, HO⟩
  iapply (wp_ld c mG gA gA.set (set_acc _ _).subset fullShare.right (xg m c) (gx m c 0) (rd_gA _)) $$ HA
  iintro HA
  iapply (ld_w0 c (wb m c)) $$ HW
  iintro HW
  iapply (ld_w1 c (wb m c)) $$ HW
  iintro HW
  iapply (ld_w2 c (wb m c)) $$ HW
  iintro HW
  unfold wpk
  rw [wp_ret]; imodintro
  iapply HQ
  isplitl [HO]; · iexact HO
  isplitl [HgR]; · iexact HgR
  isplitl [HgT]; · iexact HgT
  isplitl [Hs]; · iexact Hs
  isplitl [HA]; · iexact HA
  iexact HW

set_option maxHeartbeats 800000 in
theorem part8_run (q k v : FVec F S256x1024 .bf16) (o : FVec F S256x1024 .f32) (a : FVec F S256x128 .bf16) (hp : pt m c 1 = k0_pay21 q k v o a (wb m c 3) (wb m c 3)) {Q : (Σ' (_ : FVec F S256x1024 .bf16) (_ : FVec F S256x1024 .bf16), FVec F S1024x1024 .bf16) → sProp 𝕄} :
    iprop(wts c (wb m c) ∗ pAny c p1R ∗ gPt m c gB fullShare.right)
      ⊢ iprop(((wts c (wb m c) ∗ pPt m c p1R ∗ gPt m c gB fullShare.right) -∗ Q ⟨k0_pay22 (gx m c 1), k0_pay23 (gx m c 1) (wb m c 0), k0_pay24 (wb m c 1)⟩)
        -∗ wpk c (onBufs (k0_part8 (F := F)) q k v o a) Q) := by
  unfold wpk onBufs
  rw [k0_part8_eq_skeleton]; unfold k0_part8_skel
  simp only [Prog.lift, Prog.bind_op, Prog.bind_ret, Prog.pure_eq_ret, Prog.bind_assoc, wp_deviceId]
  iintro ⟨HW, Hp, HB⟩ HQ
  iapply (ld_w3 c (wb m c)) $$ HW
  iintro HW
  iapply (ld_w3 c (wb m c)) $$ HW
  iintro HW
  iapply (wp_ldst c mP p1R p1R.set (set_acc _ _) (stk (n := 4) (pt m c)) (k0_pay21 q k v o a (wb m c 3) (wb m c 3)) ((rd_p1 (pt m c)).trans hp)) $$ Hp
  iintro Hp
  iapply (wp_ld c mG gB gB.set (set_acc _ _).subset fullShare.right (xg m c) (gx m c 1) (rd_gB _)) $$ HB
  iintro HB
  iapply (ld_w0 c (wb m c)) $$ HW
  iintro HW
  iapply (ld_w1 c (wb m c)) $$ HW
  iintro HW
  unfold wpk
  rw [wp_ret]; imodintro
  iapply HQ
  isplitl [HW]; · iexact HW
  isplitl [Hp]; · iexact Hp
  iexact HB

set_option maxHeartbeats 800000 in
theorem part13_run (v4 v6 : BitVec 32) (o : FVec F S256x1024 .f32) (a : FVec F S256x128 .bf16) (b : FVec F S128x1024 .bf16) (z : FVec F S256x1024 .f32) (hp : pt m c 2 = k0_pay37 o a b z) {Q : (Σ' (_ : FVec F S256x1024 .bf16), FVec F S256x1024 .bf16) → sProp 𝕄} :
    iprop(records m K ∗ levAts L lv ∗ ow c (OX [4, 5, 6, 7] c) ∗ rcvG 2 c ∗ rcvG 3 c ∗ pAny c p2R ∗ wts c (wb m c))
      ⊢ iprop(((ow c (OX [4, 5, 6, 7] c) ∗ semVal (rCell 2 c) 0 ∗ semVal (rCell 3 c) 0 ∗ pPt m c p2R ∗ gPt m c gC fullShare ∗ wts c (wb m c)) -∗ Q ⟨k0_pay38 (gx m c 2), k0_pay39 (gx m c 2) (wb m c 0)⟩)
        -∗ wpk c (onBufs (k0_part13 (F := F)) v4 v6 o a b z) Q) := by
  unfold wpk onBufs
  rw [k0_part13_eq_skeleton]; unfold k0_part13_skel
  simp only [Prog.lift, Prog.bind_op, Prog.bind_ret, Prog.pure_eq_ret, Prog.bind_assoc, wp_deviceId]
  iintro ⟨#HR, #HL, HO, Hr2, Hr3, Hp, HW⟩ HQ
  iapply (wp_ldst c mP p2R p2R.set (set_acc _ _) (stk (n := 4) (pt m c)) (k0_pay37 o a b z) ((rd_p2 (pt m c)).trans hp)) $$ Hp
  iintro Hp
  iapply (wp_rcv m K 2 c _ rfl [4, 5, 6, 7] (by decide) (xfer2 m).credit) $$ [HO Hr2]
  · isplitr; · iexact HR
    isplitr; · iexact HL
    isplitl [HO]; · iexact HO
    iexact Hr2
  iintro ⟨HO, Hz2, Hl2⟩
  iapply (wp_rcv m K 3 c _ rfl [4, 5, 6, 7] (by decide) (xfer3 m).credit) $$ [HO Hr3]
  · isplitr; · iexact HR
    isplitr; · iexact HL
    isplitl [HO]; · iexact HO
    iexact Hr3
  iintro ⟨HO, Hz3, Hl3⟩
  ihave HT := (from_lnd2 m c) $$ Hl2
  ihave HB := (from_lnd3 m c) $$ Hl3
  ihave HG := (rg_split c cc0_scratch1 gC_cut.1 gC_cut.2 fullShare (xg m c)).2 $$ [HT HB]
  · isplitl [HT]; · iexact HT
    iexact HB
  iapply (wp_ld c mG gC gC.set (set_acc _ _).subset fullShare (xg m c) (gx m c 2) (rd_gC _)) $$ HG
  iintro HG
  iapply (ld_w0 c (wb m c)) $$ HW
  iintro HW
  unfold wpk
  rw [wp_ret]; imodintro
  iapply HQ
  isplitl [HO]; · iexact HO
  isplitl [Hz2]; · iexact Hz2
  isplitl [Hz3]; · iexact Hz3
  isplitl [Hp]; · iexact Hp
  isplitl [HG]; · iexact HG
  iexact HW

set_option maxHeartbeats 800000 in
theorem part18_run (v6 : BitVec 32) (o : FVec F S256x1024 .f32) (a : FVec F S256x128 .bf16) (hp : pt m c 3 = k0_pay55 o a (wb m c 3)) {Q : PUnit → sProp 𝕄} :
    iprop(wts c (wb m c) ∗ pAny c p3R ∗ hAny c hA ∗ hAny c hB)
      ⊢ iprop(((wts c (wb m c) ∗ pPt m c p3R ∗ hPt m c hA ∗ hPt m c hB) -∗ Q ⟨⟩)
        -∗ wpk c (onBufs (k0_part18 (F := F)) v6 o a) Q) := by
  unfold wpk onBufs
  rw [k0_part18_eq_skeleton]; unfold k0_part18_skel
  simp only [Prog.lift, Prog.bind_op, Prog.bind_ret, Prog.pure_eq_ret, Prog.bind_assoc, wp_deviceId]
  iintro ⟨HW, Hp, HA, HB⟩ HQ
  iapply (ld_w3 c (wb m c)) $$ HW
  iintro HW
  iapply (wp_ldst c mP p3R p3R.set (set_acc _ _) (stk (n := 4) (pt m c)) (k0_pay55 o a (wb m c 3)) ((rd_p3 (pt m c)).trans hp)) $$ Hp
  iintro Hp
  iapply (wp_ld c mP p3R p3R.set (set_acc _ _).subset fullShare (stk (n := 4) (pt m c)) (pt m c 3) (rd_p3 _)) $$ Hp
  iintro Hp
  iapply (wp_ldst c mHs hA hA.set (set_acc _ _) (stk (n := 2) (hs m c)) (k0_pay56 (pt m c 3)) (rd_hsA (hs m c))) $$ HA
  iintro HA
  iapply (wp_ld c mP p3R p3R.set (set_acc _ _).subset fullShare (stk (n := 4) (pt m c)) (pt m c 3) (rd_p3 _)) $$ Hp
  iintro Hp
  iapply (wp_ldst c mHs hB hB.set (set_acc _ _) (stk (n := 2) (hs m c)) (k0_pay57 (pt m c 3)) (rd_hsB (hs m c))) $$ HB
  iintro HB
  unfold wpk
  rw [wp_ret]; imodintro
  iapply HQ
  isplitl [HW]; · iexact HW
  isplitl [Hp]; · iexact Hp
  isplitl [HA]; · iexact HA
  iexact HB

set_option maxHeartbeats 800000 in
theorem part19_run (v4 : BitVec 32) {Q : (Σ' (_ : FVec F S256x1024 .bf16) (_ : FVec F S256x1024 .bf16) (_ : FVec F S256x1024 .bf16), FVec F S256x256 .f32) → sProp 𝕄} :
    iprop(records m K ∗ ow c (OX [4, 5, 6, 7] c) ∗ hPt m c hA ∗ hPt m c hB ∗ dstP 4 (nxt c) ∗ dstP 5 (prv c) ∗ sndG 4 c ∗ sndG 5 c ∗ hold c cc0_scratch0 fullShare.right.right (xb m c) ∗ wts c (wb m c))
      ⊢ iprop(((ow c (OX [6, 7] c) ∗ sntG 4 c ∗ sntG 5 c ∗ hold c cc0_scratch0 fullShare.right.right (xb m c) ∗ wts c (wb m c)) -∗ Q ⟨k0_pay58 (xb m c) (wb m c 0), k0_pay59 (xb m c) (wb m c 1), k0_pay60 (xb m c) (wb m c 2), k0_pay61 (xb m c) (wb m c 0) (wb m c 1)⟩)
        -∗ wpk c (onBufs (k0_part19 (F := F)) c v4) Q) := by
  unfold wpk onBufs
  rw [k0_part19_eq_skeleton]; unfold k0_part19_skel
  simp only [Prog.lift, Prog.bind_op, Prog.bind_ret, Prog.pure_eq_ret, Prog.bind_assoc, wp_deviceId]
  iintro ⟨#HR, HO, HA, HB, HD4, HD5, Hs4, Hs5, HX, HW⟩ HQ
  iapply (wp_snd m K (xfer4 m) c _ (dev7_eq c) _ _ rfl rfl [5, 6, 7]) $$ [HA HD4 HO Hs4]
  · isplitr; · iexact HR
    isplitl [HA]; · iapply (to_src4 m c); iexact HA
    isplitl [HD4]; · iexact HD4
    isplitl [HO]; · iexact HO
    iexact Hs4
  iintro ⟨Hs4, HO⟩
  iapply (wp_snd m K (xfer5 m) c _ (dev8_eq c) _ _ rfl rfl [6, 7]) $$ [HB HD5 HO Hs5]
  · isplitr; · iexact HR
    isplitl [HB]; · iapply (to_src5 m c); iexact HB
    isplitl [HD5]; · iexact HD5
    isplitl [HO]; · iexact HO
    iexact Hs5
  iintro ⟨Hs5, HO⟩
  iapply (wp_ld c mX rX Finset.univ (Finset.subset_univ _) fullShare.right.right (xb m c) (xb m c) (rd_x _)) $$ HX
  iintro HX
  iapply (ld_w0 c (wb m c)) $$ HW
  iintro HW
  iapply (ld_w1 c (wb m c)) $$ HW
  iintro HW
  iapply (ld_w2 c (wb m c)) $$ HW
  iintro HW
  unfold wpk
  rw [wp_ret]; imodintro
  iapply HQ
  isplitl [HO]; · iexact HO
  isplitl [Hs4]; · iexact Hs4
  isplitl [Hs5]; · iexact Hs5
  isplitl [HX]; · iexact HX
  iexact HW

set_option maxHeartbeats 800000 in
theorem part23_run (v6 : BitVec 32) (q k v : FVec F S256x1024 .bf16) (o : FVec F S256x1024 .f32) (l : FVec F S256x1 .f32) (e : FVec F S256x256 .bf16) (u : FVec F S256x128 .bf16) (z : FVec F S256x128 .f32) (hp : pt m c 0 = k0_pay74 q k v o l e u z (wb m c 3) (wb m c 3)) {Q : PUnit → sProp 𝕄} :
    iprop(wts c (wb m c) ∗ pAny c p0R)
      ⊢ iprop(((wts c (wb m c) ∗ pPt m c p0R) -∗ Q ⟨⟩)
        -∗ wpk c (onBufs (k0_part23 (F := F)) v6 q k v o l e u z) Q) := by
  unfold wpk onBufs
  rw [k0_part23_eq_skeleton]; unfold k0_part23_skel
  simp only [Prog.lift, Prog.bind_op, Prog.bind_ret, Prog.pure_eq_ret, Prog.bind_assoc, wp_deviceId]
  iintro ⟨HW, Hp⟩ HQ
  iapply (ld_w3 c (wb m c)) $$ HW
  iintro HW
  iapply (ld_w3 c (wb m c)) $$ HW
  iintro HW
  iapply (wp_ldst c mP p0R p0R.set (set_acc _ _) (stk (n := 4) (pt m c)) (k0_pay74 q k v o l e u z (wb m c 3) (wb m c 3)) ((rd_p0 (pt m c)).trans hp)) $$ Hp
  iintro Hp
  unfold wpk
  rw [wp_ret]; imodintro
  iapply HQ
  isplitl [HW]; · iexact HW
  iexact Hp

set_option maxHeartbeats 800000 in
theorem part24_run (v6 : BitVec 32) {Q : PUnit → sProp 𝕄} :
    iprop(records m K ∗ levAts L lv ∗ ow c (OX [6, 7] c) ∗ rcvG 4 c ∗ pPt m c p2R ∗ aAny c aAt ∗ aAny c aAb)
      ⊢ iprop(((ow c (OX [6, 7] c) ∗ semVal (rCell 4 c) 0 ∗ hrPt m c hA ∗ pPt m c p2R ∗ aPt m c aAt ∗ aPt m c aAb) -∗ Q ⟨⟩)
        -∗ wpk c (onBufs (k0_part24 (F := F)) v6) Q) := by
  unfold wpk onBufs
  rw [k0_part24_eq_skeleton]; unfold k0_part24_skel
  simp only [Prog.lift, Prog.bind_op, Prog.bind_ret, Prog.pure_eq_ret, Prog.bind_assoc, wp_deviceId]
  iintro ⟨#HR, #HL, HO, Hr, Hp, Ht, Hb⟩ HQ
  iapply (wp_rcv m K 4 c _ rfl [6, 7] (by decide) (xfer4 m).credit) $$ [HO Hr]
  · isplitr; · iexact HR
    isplitr; · iexact HL
    isplitl [HO]; · iexact HO
    iexact Hr
  iintro ⟨HO, Hz, Hl⟩
  ihave Hh := (from_lnd4 m c) $$ Hl
  iapply (wp_ld c mP p2R p2R.set (set_acc _ _).subset fullShare (stk (n := 4) (pt m c)) (pt m c 2) (rd_p2 _)) $$ Hp
  iintro Hp
  iapply (wp_ld c mHr hA hA.set (set_acc _ _).subset fullShare (stk (n := 2) (hr m c)) (hr m c 0) (rd_hrA _)) $$ Hh
  iintro Hh
  iapply (wp_ldst c mAs aAt aAt.set (set_acc _ _) (stk (n := 2) (acS m c)) (k0_pay75 (pt m c 2) (hr m c 0)) (rd_aAt (acS m c) _ _ rfl)) $$ Ht
  iintro Ht
  iapply (wp_ld c mP p2R p2R.set (set_acc _ _).subset fullShare (stk (n := 4) (pt m c)) (pt m c 2) (rd_p2 _)) $$ Hp
  iintro Hp
  iapply (wp_ldst c mAs aAb aAb.set (set_acc _ _) (stk (n := 2) (acS m c)) (k0_pay76 (pt m c 2)) (rd_aAb (acS m c) _ _ rfl)) $$ Hb
  iintro Hb
  unfold wpk
  rw [wp_ret]; imodintro
  iapply HQ
  isplitl [HO]; · iexact HO
  isplitl [Hz]; · iexact Hz
  isplitl [Hh]; · iexact Hh
  isplitl [Hp]; · iexact Hp
  isplitl [Ht]; · iexact Ht
  iexact Hb

set_option maxHeartbeats 800000 in
theorem part25_run (v4 : BitVec 32) {Q : PUnit → sProp 𝕄} :
    iprop(records m K ∗ levAts L lv ∗ ow c (OX [6, 7] c) ∗ aPt m c aAt ∗ aPt m c aAb ∗ dstP 6 (nxt c) ∗ sndG 6 c ∗ rcvG 5 c ∗ pPt m c p1R ∗ aAny c aBt ∗ aAny c aBb)
      ⊢ iprop(((ow c (OX [7] c) ∗ sntG 6 c ∗ semVal (rCell 5 c) 0 ∗ hrPt m c hB ∗ pPt m c p1R ∗ aPt m c aBt ∗ aPt m c aBb) -∗ Q ⟨⟩)
        -∗ wpk c (onBufs (k0_part25 (F := F)) c v4) Q) := by
  unfold wpk onBufs
  rw [k0_part25_eq_skeleton]; unfold k0_part25_skel
  simp only [Prog.lift, Prog.bind_op, Prog.bind_ret, Prog.pure_eq_ret, Prog.bind_assoc, wp_deviceId]
  iintro ⟨#HR, #HL, HO, Hat, Hab, HD, Hs, Hr, Hp, Ht, Hb⟩ HQ
  ihave HA := (rg_split c cc0_scratch6 aA_cut.1 aA_cut.2 fullShare (stk (n := 2) (acS m c))).2 $$ [Hat Hab]
  · isplitl [Hat]; · iexact Hat
    iexact Hab
  iapply (wp_snd m K (xfer6 m) c _ (dev9_eq c) _ _ rfl rfl [7]) $$ [HA HD HO Hs]
  · isplitr; · iexact HR
    isplitl [HA]; · iapply (to_src6 m c); iexact HA
    isplitl [HD]; · iexact HD
    isplitl [HO]; · iexact HO
    iexact Hs
  iintro ⟨Hs, HO⟩
  iapply (wp_rcv m K 5 c _ rfl [7] (by decide) (xfer5 m).credit) $$ [HO Hr]
  · isplitr; · iexact HR
    isplitr; · iexact HL
    isplitl [HO]; · iexact HO
    iexact Hr
  iintro ⟨HO, Hz, Hl⟩
  ihave Hh := (from_lnd5 m c) $$ Hl
  iapply (wp_ld c mP p1R p1R.set (set_acc _ _).subset fullShare (stk (n := 4) (pt m c)) (pt m c 1) (rd_p1 _)) $$ Hp
  iintro Hp
  iapply (wp_ld c mHr hB hB.set (set_acc _ _).subset fullShare (stk (n := 2) (hr m c)) (hr m c 1) (rd_hrB _)) $$ Hh
  iintro Hh
  iapply (wp_ldst c mAs aBb aBb.set (set_acc _ _) (stk (n := 2) (acS m c)) (k0_pay77 (pt m c 1) (hr m c 1)) (rd_aBb (acS m c) _ _ rfl)) $$ Hb
  iintro Hb
  iapply (wp_ld c mP p1R p1R.set (set_acc _ _).subset fullShare (stk (n := 4) (pt m c)) (pt m c 1) (rd_p1 _)) $$ Hp
  iintro Hp
  iapply (wp_ldst c mAs aBt aBt.set (set_acc _ _) (stk (n := 2) (acS m c)) (k0_pay78 (pt m c 1)) (rd_aBt (acS m c) _ _ rfl)) $$ Ht
  iintro Ht
  unfold wpk
  rw [wp_ret]; imodintro
  iapply HQ
  isplitl [HO]; · iexact HO
  isplitl [Hs]; · iexact Hs
  isplitl [Hz]; · iexact Hz
  isplitl [Hh]; · iexact Hh
  isplitl [Hp]; · iexact Hp
  isplitl [Ht]; · iexact Ht
  iexact Hb

set_option maxHeartbeats 800000 in
theorem part26_run (v4 v6 : BitVec 32) {Q : PUnit → sProp 𝕄} :
    iprop(records m K ∗ levAts L lv ∗ ow c (OX [7] c) ∗ aPt m c aBt ∗ aPt m c aBb ∗ dstP 7 (prv c) ∗ sndG 7 c ∗ rcvG 6 c ∗ rcvG 7 c)
      ⊢ iprop(((ow c 0 ∗ sntG 7 c ∗ semVal (rCell 6 c) 0 ∗ semVal (rCell 7 c) 0 ∗ arPt m c aA ∗ arPt m c aB) -∗ Q ⟨⟩)
        -∗ wpk c (onBufs (k0_part26 (F := F)) c v4 v6) Q) := by
  unfold wpk onBufs
  rw [k0_part26_eq_skeleton]; unfold k0_part26_skel
  simp only [Prog.lift, Prog.bind_op, Prog.bind_ret, Prog.pure_eq_ret, Prog.bind_assoc, wp_deviceId]
  iintro ⟨#HR, #HL, HO, Hat, Hab, HD, Hs, Hr6, Hr7⟩ HQ
  ihave HA := (rg_split c cc0_scratch6 aB_cut.1 aB_cut.2 fullShare (stk (n := 2) (acS m c))).2 $$ [Hat Hab]
  · isplitl [Hat]; · iexact Hat
    iexact Hab
  iapply (wp_snd m K (xfer7 m) c _ (dev10_eq c) _ _ rfl rfl []) $$ [HA HD HO Hs]
  · isplitr; · iexact HR
    isplitl [HA]; · iapply (to_src7 m c); iexact HA
    isplitl [HD]; · iexact HD
    isplitl [HO]; · iexact HO
    iexact Hs
  iintro ⟨Hs, HO⟩
  iapply (wp_rcv m K 6 c _ rfl [] (by decide) (xfer6 m).credit) $$ [HO Hr6]
  · isplitr; · iexact HR
    isplitr; · iexact HL
    isplitl [HO]; · iexact HO
    iexact Hr6
  iintro ⟨HO, Hz6, Hl6⟩
  iapply (wp_rcv m K 7 c _ rfl [] (by decide) (xfer7 m).credit) $$ [HO Hr7]
  · isplitr; · iexact HR
    isplitr; · iexact HL
    isplitl [HO]; · iexact HO
    iexact Hr7
  iintro ⟨HO, Hz7, Hl7⟩
  ihave H6 := (from_lnd6 m c) $$ Hl6
  ihave H7 := (from_lnd7 m c) $$ Hl7
  rw [wp_ret]; imodintro
  iapply HQ
  isplitl [HO]; · iexact HO
  isplitl [Hs]; · iexact Hs
  isplitl [Hz6]; · iexact Hz6
  isplitl [Hz7]; · iexact Hz7
  isplitl [H6]; · iexact H6
  iexact H7

set_option maxHeartbeats 800000 in
theorem part27_run {Q : PUnit → sProp 𝕄} :
    iprop(records m K ∗ ow c 0 ∗ sntG 0 c ∗ sntG 1 c ∗ pPt m c p0R ∗ arPt m c aA ∗ arPt m c aB ∗ (∃ f, hold c cc0_stg5_0 fullShare f))
      ⊢ iprop(((ow c 0 ∗ semVal (sCell 0 c) 0 ∗ semVal (sCell 1 c) 0 ∗ srcP m 0 c ∗ srcP m 1 c ∗ pPt m c p0R ∗ arPt m c aA ∗ arPt m c aB ∗ hold c cc0_stg5_0 fullShare (outV m c)) -∗ Q ⟨⟩)
        -∗ wpk c (onBufs (k0_part27 (F := F))) Q) := by
  unfold wpk onBufs
  rw [k0_part27_eq_skeleton]; unfold k0_part27_skel
  simp only [Prog.lift, Prog.bind_op, Prog.bind_ret, Prog.pure_eq_ret, Prog.bind_assoc, wp_deviceId]
  iintro ⟨#HR, HO, Hs0, Hs1, Hp, HA, HB, Ho⟩ HQ
  iapply (wp_ld c mP p0R p0R.set (set_acc _ _).subset fullShare (stk (n := 4) (pt m c)) (pt m c 0) (rd_p0 _)) $$ Hp
  iintro Hp
  iapply (wp_ld c mAr aA aA.set (set_acc _ _).subset fullShare (stk (n := 2) (acR m c)) (acR m c 0) (rd_arA _)) $$ HA
  iintro HA
  iapply (wp_ld c mAr aB aB.set (set_acc _ _).subset fullShare (stk (n := 2) (acR m c)) (acR m c 1) (rd_arB _)) $$ HB
  iintro HB
  iapply (wp_ldst c mOut rB Finset.univ set_b (outV m c) (k0_pay79 (pt m c 0) (acR m c 0) (acR m c 1)) (rd_out _)) $$ Ho
  iintro Ho
  iapply (wp_snt m K 0 c _ rfl (dst := mX) (show mX.view.dmaCredit = N 0 from rfl)) $$ [HO Hs0]
  · isplitr; · iexact HR
    isplitl [HO]; · iexact HO
    iexact Hs0
  iintro ⟨HO, Hz0, HX0⟩
  iapply (wp_snt m K 1 c _ rfl (dst := mX) (show mX.view.dmaCredit = N 1 from rfl)) $$ [HO Hs1]
  · isplitr; · iexact HR
    isplitl [HO]; · iexact HO
    iexact Hs1
  iintro ⟨HO, Hz1, HX1⟩
  rw [wp_ret]; imodintro
  iapply HQ
  isplitl [HO]; · iexact HO
  isplitl [Hz0]; · iexact Hz0
  isplitl [Hz1]; · iexact Hz1
  isplitl [HX0]; · iexact HX0
  isplitl [HX1]; · iexact HX1
  isplitl [Hp]; · iexact Hp
  isplitl [HA]; · iexact HA
  isplitl [HB]; · iexact HB
  iexact Ho

set_option maxHeartbeats 800000 in
theorem part28_run {Q : PUnit → sProp 𝕄} :
    iprop(records m K ∗ ow c 0 ∗ sntG 2 c ∗ sntG 3 c ∗ sntG 4 c ∗ sntG 5 c)
      ⊢ iprop(((ow c 0 ∗ (semVal (sCell 2 c) 0 ∗ semVal (sCell 3 c) 0 ∗ semVal (sCell 4 c) 0 ∗ semVal (sCell 5 c) 0) ∗ (srcP m 2 c ∗ srcP m 3 c ∗ srcP m 4 c ∗ srcP m 5 c)) -∗ Q ⟨⟩)
        -∗ wpk c (onBufs (k0_part28 (F := F))) Q) := by
  unfold wpk onBufs
  rw [k0_part28_eq_skeleton]; unfold k0_part28_skel
  simp only [Prog.lift, Prog.bind_op, Prog.bind_ret, Prog.pure_eq_ret, Prog.bind_assoc, wp_deviceId]
  iintro ⟨#HR, HO, Hs2, Hs3, Hs4, Hs5⟩ HQ
  iapply (wp_snt m K 2 c _ rfl (dst := gAt') (show gAt'.view.dmaCredit = N 2 from rfl)) $$ [HO Hs2]
  · isplitr; · iexact HR
    isplitl [HO]; · iexact HO
    iexact Hs2
  iintro ⟨HO, Hz2, HX2⟩
  iapply (wp_snt m K 3 c _ rfl (dst := gBb') (show gBb'.view.dmaCredit = N 3 from rfl)) $$ [HO Hs3]
  · isplitr; · iexact HR
    isplitl [HO]; · iexact HO
    iexact Hs3
  iintro ⟨HO, Hz3, HX3⟩
  iapply (wp_snt m K 4 c _ rfl (dst := hsA') (show hsA'.view.dmaCredit = N 4 from rfl)) $$ [HO Hs4]
  · isplitr; · iexact HR
    isplitl [HO]; · iexact HO
    iexact Hs4
  iintro ⟨HO, Hz4, HX4⟩
  iapply (wp_snt m K 5 c _ rfl (dst := hsB') (show hsB'.view.dmaCredit = N 5 from rfl)) $$ [HO Hs5]
  · isplitr; · iexact HR
    isplitl [HO]; · iexact HO
    iexact Hs5
  iintro ⟨HO, Hz5, HX5⟩
  rw [wp_ret]; imodintro
  iapply HQ
  isplitl [HO]; · iexact HO
  isplitl [Hz2 Hz3 Hz4 Hz5]
  · isplitl [Hz2]; · iexact Hz2
    isplitl [Hz3]; · iexact Hz3
    isplitl [Hz4]; · iexact Hz4
    iexact Hz5
  isplitl [HX2]; · iexact HX2
  isplitl [HX3]; · iexact HX3
  isplitl [HX4]; · iexact HX4
  iexact HX5

end Cert.KernelIdealRun

end
-- ==== Proof.KernelIdealPieces.lean ====
/-
# 01_k — the whole body of a device

The scratch buffers are cut into the pieces the parts work on, the parts are run one after the other, and the pieces are
joined again.
-/
module

public import proofs.«01_k».proof.Proof.KernelIdealLoads
public import proofs.«01_k».proof.Proof.KernelIdealExchange

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ) (c : Dev nD)

/-! ## Cutting and joining the scratch buffers -/

/-- Some contents on a set of places are some contents on either part of it. -/
theorem any_cut (b : Ref sig .tc) {S S₁ S₂ : Finset b.ty.shape.Idx} (h : S = S₁ ∪ S₂ ∧ Disjoint S₁ S₂) :
    (iprop(∃ f : b.ty.Contents (Elt F), (c : Thread nD τ).loc b ↦[S]{fullShare} f) : sProp 𝕄)
      ⊢ iprop((∃ f : b.ty.Contents (Elt F), (c : Thread nD τ).loc b ↦[S₁]{fullShare} f) ∗ (∃ f : b.ty.Contents (Elt F), (c : Thread nD τ).loc b ↦[S₂]{fullShare} f)) := by
  iintro ⟨%f, H⟩
  ihave H2 := (rg_split c b h.1 h.2 fullShare f).1 $$ H
  icases H2 with ⟨H1, H2⟩
  isplitl [H1]
  · iexists f; iexact H1
  · iexists f; iexact H2

/-- The same contents on two disjoint sets of places are those contents on both. -/
theorem join (b : Ref sig .tc) {S S₁ S₂ : Finset b.ty.shape.Idx} (h : S = S₁ ∪ S₂ ∧ Disjoint S₁ S₂) (q : PosShare TreeShare) (f : b.ty.Contents (Elt F)) :
    (iprop(((c : Thread nD τ).loc b ↦[S₁]{q} f) ∗ ((c : Thread nD τ).loc b ↦[S₂]{q} f)) : sProp 𝕄) ⊢ ((c : Thread nD τ).loc b ↦[S]{q} f) :=
  (rg_split c b h.1 h.2 q f).2

/-- The two halves of the full share are the full share. -/
theorem heal (b : Ref sig .tc) (S : Finset b.ty.shape.Idx) (q : PosShare TreeShare) (f : b.ty.Contents (Elt F)) :
    (iprop(((c : Thread nD τ).loc b ↦[S]{q.left} f) ∗ ((c : Thread nD τ).loc b ↦[S]{q.right} f)) : sProp 𝕄) ⊢ ((c : Thread nD τ).loc b ↦[S]{q} f) :=
  (pointsTo_share (PosShare.mem_left_op_right q)).2

/-- A buffer of device `c` with some contents. -/
abbrev some_ (b : Ref sig .tc) : sProp 𝕄 := iprop(∃ f : b.ty.Contents (Elt F), hold c b fullShare f)

/-- The eight scratch buffers, with whatever they hold. -/
def scratches : sProp 𝕄 :=
  iprop(some_ (F := F) c cc0_scratch0 ∗ some_ (F := F) c cc0_scratch1 ∗ some_ (F := F) c cc0_scratch2 ∗ some_ (F := F) c cc0_scratch3
    ∗ some_ (F := F) c cc0_scratch4 ∗ some_ (F := F) c cc0_scratch5 ∗ some_ (F := F) c cc0_scratch6 ∗ some_ (F := F) c cc0_scratch7)

/-- A slot of the weights' scratch with some contents. -/
abbrev wAny (r : Rect S4x1024x1024) : sProp 𝕄 := iprop(∃ f, rg (F := F) c cc0_scratch2 r fullShare f)

/-- The pieces the body starts with. -/
def pieces : sProp 𝕄 :=
  iprop(some_ (F := F) c cc0_scratch0
    ∗ (dstP (F := F) 0 c ∗ dstP (F := F) 2 c ∗ dstP (F := F) 4 c ∗ dstP (F := F) 6 c) ∗ (dstP (F := F) 1 c ∗ dstP (F := F) 3 c ∗ dstP (F := F) 5 c ∗ dstP (F := F) 7 c)
    ∗ (wAny (F := F) c w0R ∗ wAny (F := F) c w1R ∗ wAny (F := F) c w2R ∗ wAny (F := F) c w3R)
    ∗ (pAny (F := F) c p0R ∗ pAny (F := F) c p1R ∗ pAny (F := F) c p2R ∗ pAny (F := F) c p3R)
    ∗ (hAny (F := F) c hA ∗ hAny (F := F) c hB)
    ∗ (aAny (F := F) c aAt ∗ aAny (F := F) c aAb ∗ aAny (F := F) c aBt ∗ aAny (F := F) c aBb))

set_option maxHeartbeats 800000 in
theorem cut_up : (scratches c : sProp 𝕄) ⊢ pieces c := by
  unfold scratches pieces dstP
  iintro ⟨H0, H1, H2, H3, H4, H5, H6, H7⟩
  ihave G0 := (any_cut c cc0_scratch1 g_cut) $$ H1
  icases G0 with ⟨G0, G12⟩
  ihave G1 := (any_cut c cc0_scratch1 gBC_cut) $$ G12
  icases G1 with ⟨G1, G2⟩
  ihave G2' := (any_cut c cc0_scratch1 gC_cut) $$ G2
  icases G2' with ⟨G2, G3⟩
  ihave W0 := (any_cut c cc0_scratch2 w_cut) $$ H2
  icases W0 with ⟨W0, W123⟩
  ihave W1 := (any_cut c cc0_scratch2 w123_cut) $$ W123
  icases W1 with ⟨W1, W23⟩
  ihave W2 := (any_cut c cc0_scratch2 w23_cut) $$ W23
  icases W2 with ⟨W2, W3⟩
  ihave P0 := (any_cut c cc0_scratch3 p_cut) $$ H3
  icases P0 with ⟨P0, P123⟩
  ihave P1 := (any_cut c cc0_scratch3 p123_cut) $$ P123
  icases P1 with ⟨P1, P23⟩
  ihave P2 := (any_cut c cc0_scratch3 p23_cut) $$ P23
  icases P2 with ⟨P2, P3⟩
  ihave S0 := (any_cut c cc0_scratch4 h_cut) $$ H4
  icases S0 with ⟨S0, S1⟩
  ihave R0 := (any_cut c cc0_scratch5 h_cut) $$ H5
  icases R0 with ⟨R0, R1⟩
  ihave A0 := (any_cut c cc0_scratch6 a_cut) $$ H6
  icases A0 with ⟨A0, A1⟩
  ihave A2 := (any_cut c cc0_scratch6 aA_cut) $$ A0
  icases A2 with ⟨A0t, A0b⟩
  ihave A3 := (any_cut c cc0_scratch6 aB_cut) $$ A1
  icases A3 with ⟨A1t, A1b⟩
  ihave B0 := (any_cut c cc0_scratch7 a_cut) $$ H7
  icases B0 with ⟨B0, B1⟩
  isplitl [H0]; · iexact H0
  isplitl [G0 G2 R0 B0]
  · isplitl [G0]; · iexact G0
    isplitl [G2]; · iexact G2
    isplitl [R0]; · iexact R0
    iexact B0
  isplitl [G1 G3 R1 B1]
  · isplitl [G1]; · iexact G1
    isplitl [G3]; · iexact G3
    isplitl [R1]; · iexact R1
    iexact B1
  isplitl [W0 W1 W2 W3]
  · isplitl [W0]; · iexact W0
    isplitl [W1]; · iexact W1
    isplitl [W2]; · iexact W2
    iexact W3
  isplitl [P0 P1 P2 P3]
  · isplitl [P0]; · iexact P0
    isplitl [P1]; · iexact P1
    isplitl [P2]; · iexact P2
    iexact P3
  isplitl [S0 S1]
  · isplitl [S0]; · iexact S0
    iexact S1
  isplitl [A0t]; · iexact A0t
  isplitl [A0b]; · iexact A0b
  isplitl [A1t]; · iexact A1t
  iexact A1b

/-- The four slots of the weights, each filled, are the weights. -/
theorem wts_join (w : Fin 4 → Vec F S1x1024x1024 .bf16) :
    iprop(rg c cc0_scratch2 w0R fullShare (stk (n := 4) w) ∗ rg c cc0_scratch2 w1R fullShare (stk (n := 4) w)
      ∗ rg c cc0_scratch2 w2R fullShare (stk (n := 4) w) ∗ rg c cc0_scratch2 w3R fullShare (stk (n := 4) w)) ⊢ wts c w := by
  iintro ⟨H0, H1, H2, H3⟩
  iapply (join c cc0_scratch2 w_cut fullShare (stk (n := 4) w))
  isplitl [H0]; · iexact H0
  iapply (join c cc0_scratch2 w123_cut fullShare (stk (n := 4) w))
  isplitl [H1]; · iexact H1
  iapply (join c cc0_scratch2 w23_cut fullShare (stk (n := 4) w))
  isplitl [H2]; · iexact H2
  iexact H3

/-- What is left of the scratch buffers when the body is done. -/
def leftovers : sProp 𝕄 :=
  iprop((srcP m 0 c ∗ srcP m 1 c ∗ hold c cc0_scratch0 fullShare.right.right (xb m c))
    ∗ (gPt m c gA fullShare.right ∗ gPt m c gAb fullShare.left ∗ srcP m 2 c) ∗ (gPt m c gB fullShare.right ∗ gPt m c gBt fullShare.left ∗ srcP m 3 c)
    ∗ gPt m c gC fullShare ∗ wts c (wb m c) ∗ (pPt m c p0R ∗ pPt m c p1R ∗ pPt m c p2R ∗ pPt m c p3R)
    ∗ (srcP m 4 c ∗ srcP m 5 c) ∗ (hrPt m c hA ∗ hrPt m c hB) ∗ (srcP m 6 c ∗ srcP m 7 c) ∗ arPt m c aA ∗ arPt m c aB)

set_option maxHeartbeats 800000 in
theorem put_together : leftovers m c ⊢ scratches c := by
  unfold leftovers scratches srcP
  iintro ⟨⟨X0, X1, X2⟩, ⟨GA, GAb, GAt⟩, ⟨GB, GBt, GBb⟩, GC, W, ⟨P0, P1, P2, P3⟩, ⟨S0, S1⟩, ⟨R0, R1⟩, ⟨A0, A1⟩, B0, B1⟩
  isplitl [X0 X1 X2]
  · iexists (xb m c)
    iapply (heal c cc0_scratch0 Finset.univ fullShare (xb m c))
    isplitl [X0]; · iexact X0
    iapply (heal c cc0_scratch0 Finset.univ fullShare.right (xb m c))
    isplitl [X1]; · iexact X1
    iexact X2
  isplitl [GA GAb GAt GB GBt GBb GC]
  · iexists (xg m c)
    iapply (join c cc0_scratch1 g_cut fullShare (xg m c))
    isplitl [GA GAb GAt]
    · iapply (heal c cc0_scratch1 gA.set fullShare (xg m c))
      isplitr [GA]
      · iapply (join c cc0_scratch1 gA_cut fullShare.left (xg m c))
        isplitl [GAt]; · iexact GAt
        iexact GAb
      iexact GA
    iapply (join c cc0_scratch1 gBC_cut fullShare (xg m c))
    isplitr [GC]
    · iapply (heal c cc0_scratch1 gB.set fullShare (xg m c))
      isplitr [GB]
      · iapply (join c cc0_scratch1 gB_cut fullShare.left (xg m c))
        isplitl [GBt]; · iexact GBt
        iexact GBb
      iexact GB
    iexact GC
  isplitl [W]; · iexists (stk (n := 4) (wb m c)); iexact W
  isplitl [P0 P1 P2 P3]
  · iexists (stk (n := 4) (pt m c))
    iapply (join c cc0_scratch3 p_cut fullShare (stk (n := 4) (pt m c)))
    isplitl [P0]; · iexact P0
    iapply (join c cc0_scratch3 p123_cut fullShare (stk (n := 4) (pt m c)))
    isplitl [P1]; · iexact P1
    iapply (join c cc0_scratch3 p23_cut fullShare (stk (n := 4) (pt m c)))
    isplitl [P2]; · iexact P2
    iexact P3
  isplitl [S0 S1]
  · iexists (stk (n := 2) (hs m c))
    iapply (join c cc0_scratch4 h_cut fullShare (stk (n := 2) (hs m c)))
    isplitl [S0]; · iexact S0
    iexact S1
  isplitl [R0 R1]
  · iexists (stk (n := 2) (hr m c))
    iapply (join c cc0_scratch5 h_cut fullShare (stk (n := 2) (hr m c)))
    isplitl [R0]; · iexact R0
    iexact R1
  isplitl [A0 A1]
  · iexists (stk (n := 2) (acS m c))
    iapply (join c cc0_scratch6 a_cut fullShare (stk (n := 2) (acS m c)))
    isplitl [A0]; · iexact A0
    iexact A1
  iexists (stk (n := 2) (acR m c))
  iapply (join c cc0_scratch7 a_cut fullShare (stk (n := 2) (acR m c)))
  isplitl [B0]; · iexact B0
  iexact B1

end Cert.KernelIdealRun

end
-- ==== Proof.KernelIdealMain.lean ====
/-
# 01_k — a device's run

What the launch deals a device, cut into what each part of the body takes; the parts one after the other; and what the
device has at the end.
-/
module

public import proofs.«01_k».proof.Proof.KernelIdealPieces

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ) (c : Dev nD)

/-! ## The cells by kind -/

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A device's cells are its barrier's, its eight send cells and its eight receive cells. -/
def kindE : (Unit ⊕ (Fin 8 ⊕ Fin 8)) ≃ Fin 17 :=
  Equiv.ofBijective (fun x => match x with | .inl _ => 0 | .inr (.inl i) => kS i | .inr (.inr i) => kR i) (by decide)

/-- So a product over the cells is one over each kind. -/
theorem cells_eq (Φ : GSem nD τ sig → sProp 𝕄) :
    bigSep Finset.univ (fun k : Fin 17 => Φ (kcell (c, k)))
      = iprop(Φ (barCell c) ∗ (bigSep Finset.univ fun i : Fin 8 => Φ (sCell i c)) ∗ bigSep Finset.univ fun i : Fin 8 => Φ (rCell i c)) := by
  rw [bigSep_univ_equiv kindE, bigSep_univ_sum, bigSep_univ_sum, show (Finset.univ : Finset Unit) = {()} from rfl, bigSep_singleton]
  have hs : (fun i : Fin 8 => Φ (kcell (c, kindE (.inr (.inl i))))) = fun i => Φ (sCell i c) :=
    funext fun i => congrArg (fun s => Φ ((c : Thread nD τ), s)) (osem_s i)
  have hr : (fun i : Fin 8 => Φ (kcell (c, kindE (.inr (.inr i))))) = fun i => Φ (rCell i c) :=
    funext fun i => congrArg (fun s => Φ ((c : Thread nD τ), s)) (osem_r i)
  rw [hs, hr]; rfl

/-! ## What a device is dealt -/

/-- The tokens of the duties device `c` pays: its signals to both neighbours, and the two cells of each of its transfers. -/
def payToks : sProp 𝕄 :=
  iprop(dutyTok ER (barCell (nxt c)) 0 false ∗ dutyTok ER (barCell (prv c)) 0 true
    ∗ (bigSep Finset.univ fun i : Fin 8 => dutyTok ER (sCell i c) 0 false) ∗ bigSep Finset.univ fun i : Fin 8 => dutyTok ER (rCell i (tgt i c)) 0 false)
/-- Its place in its own cells, and those tokens. -/
def linear : sProp 𝕄 := iprop((bigSep Finset.univ fun k : Fin 17 => atPos ER (kcell (c, k)) 0 ∅ 0) ∗ payToks c)
/-- The credit of what it is to receive. -/
def credits : sProp 𝕄 :=
  iprop(cred (tallyAt (barCell c) () 2) ∗ bigSep Finset.univ fun i : Fin 8 => cred (tallyAt (rCell i c) () (N i)))

/-- That is: what it meets its neighbours with, and for each transfer what it sends and receives it with. -/
theorem deal : (iprop(linear c ∗ credits c) : sProp 𝕄)
    ⊢ iprop((dutyTok ER (barCell (prv c)) 0 true ∗ dutyTok ER (barCell (nxt c)) 0 false)
        ∗ (atPos ER (barCell c) 0 ∅ 0 ∗ cred (tallyAt (barCell c) () 2))
        ∗ (bigSep Finset.univ fun i : Fin 8 => sndG (F := F) i c) ∗ bigSep Finset.univ fun i : Fin 8 => rcvG (F := F) i c) := by
  unfold linear credits payToks sndG rcvG
  rw [cells_eq c fun g => atPos ER g 0 ∅ 0, bigSep_sep', bigSep_sep', bigSep_sep']
  iintro ⟨⟨⟨Hb, Hs, Hr⟩, Hn, Hp, HtS, HtR⟩, Hc, HcR⟩
  isplitl [Hp Hn]
  · isplitl [Hp] <;> iassumption
  isplitl [Hb Hc]
  · isplitl [Hb] <;> iassumption
  isplitl [Hs HtS HtR]
  · isplitl [HtS]; · iexact HtS
    isplitl [HtR] <;> iassumption
  isplitl [Hr] <;> iassumption

/-- All of a device's cells at zero. -/
def zeros : sProp 𝕄 :=
  iprop(semVal (barCell c) 0 ∗ (bigSep Finset.univ fun i : Fin 8 => semVal (sCell i c) 0) ∗ bigSep Finset.univ fun i : Fin 8 => semVal (rCell i c) 0)

/-- The inputs as they are staged. -/
def inputs : sProp 𝕄 :=
  iprop(hold c cc0_stg0_0 fullShare (xIn m c) ∗ hold c cc0_stg1_0 fullShare (wqIn m c) ∗ hold c cc0_stg2_0 fullShare (woIn m c)
    ∗ hold c cc0_stg3_0 fullShare (wkIn m c) ∗ hold c cc0_stg4_0 fullShare (wvIn m c))

set_option maxHeartbeats 4000000 in
/-- A device's run: from what it is dealt, its scratch and its inputs, to its result, with every cell of it at zero. -/
theorem sound_body {Q : PUnit → sProp 𝕄} :
    iprop(records m K ∗ levAts L lv ∗ ow c (O₀ c) ∗ linear c ∗ credits c ∗ scratches c ∗ inputs m c ∗ some_ c cc0_stg5_0)
      ⊢ iprop(((ow c 0 ∗ zeros c ∗ scratches c ∗ inputs m c ∗ hold c cc0_stg5_0 fullShare (outV m c)) -∗ Q ⟨⟩)
        -∗ wpk c (onBufs (cc0_body (F := F))) Q) := by
  unfold wpk onBufs
  rw [cc0_body_eq_skeleton]; unfold cc0_body_skel inputs
  iintro ⟨#HR, #HL, HO, Hlin, Hcr, Hsc, ⟨Ix, Iq, Io, Ik, Iv⟩, Hout⟩ HQ
  ihave Hd := (deal (F := F) c) $$ [Hlin Hcr]
  · isplitl [Hlin] <;> iassumption
  ihave Hpc := (cut_up (F := F) c) $$ Hsc
  unfold pieces
  icases Hpc with ⟨X, De, Do, ⟨W0, W1, W2, W3⟩, ⟨P0, P1, P2, P3⟩, ⟨SA, SB⟩, A0t, A0b, A1t, A1b⟩
  rw [fin8 fun i => sndG (F := F) i c, fin8 fun i => rcvG (F := F) i c]
  icases Hd with ⟨Ht, Hb, ⟨S0, S1, S2, S3, S4, S5, S6, S7⟩, R0, R1, R2, R3, R4, R5, R6, R7⟩
  rw [wp_bind]
  iapply (part1_run m K c) $$ [HO Ht Hb De Do S0 Ix X]
  · isplitr; · iexact HR
    isplitr; · iexact HL
    isplitl [HO]; · iexact HO
    isplitl [Ht]; · iexact Ht
    isplitl [Hb]; · iexact Hb
    isplitl [De]; · iexact De
    isplitl [Do]; · iexact Do
    isplitl [S0]; · iexact S0
    isplitl [Ix]; · iexact Ix
    iexact X
  iintro %v4 %v6 ⟨HO, Zb, ⟨D2, D4, D6⟩, ⟨D1, D3, D5, D7⟩, T0, Ix, X1, X⟩
  dsimp only
  rw [wp_bind]
  iapply (part2_run m K c v4) $$ [X1 D1 HO S1 W0 W1 W2 Iq Ik Iv Io]
  · isplitr; · iexact HR
    isplitl [X1]; · iexact X1
    isplitl [D1]; · iexact D1
    isplitl [HO]; · iexact HO
    isplitl [S1]; · iexact S1
    isplitl [W0]; · iexact W0
    isplitl [W1]; · iexact W1
    isplitl [W2]; · iexact W2
    isplitl [Iq]; · iexact Iq
    isplitl [Ik]; · iexact Ik
    isplitl [Iv]; · iexact Iv
    iexact Io
  iintro ⟨HO, T1, W0, W1, W2, Iq, Ik, Iv, Io⟩
  rw [wp_bind]
  iapply (part3_run m K c v4 v6) $$ [HO W3 R0 R1 S2 D2]
  · isplitr; · iexact HR
    isplitr; · iexact HL
    isplitl [HO]; · iexact HO
    isplitl [W3]; · iexact W3
    isplitl [R0]; · iexact R0
    isplitl [R1]; · iexact R1
    isplitl [S2]; · iexact S2
    iexact D2
  iintro %v82 ⟨HO, W3, ZR0, ZR1, T2, GA, GAb, L1⟩
  ihave HW := (wts_join c (wb m c)) $$ [W0 W1 W2 W3]
  · isplitl [W0]; · iexact W0
    isplitl [W1]; · iexact W1
    isplitl [W2]; · iexact W2
    iexact W3
  rw [wp_bind]
  iapply (part4_run m K c v82) $$ [HO L1 D3 S3 GA HW]
  · isplitr; · iexact HR
    isplitl [HO]; · iexact HO
    isplitl [L1]; · iexact L1
    isplitl [D3]; · iexact D3
    isplitl [S3]; · iexact S3
    isplitl [GA]; · iexact GA
    iexact HW
  iintro ⟨HO, GB, GBt, T3, GA, HW⟩
  dsimp only
  rw [wp_bind]
  iapply (part5_run c (wb m c) _ _ _ _ _ _ _) $$ HW
  iintro HW
  dsimp only
  rw [wp_bind]
  iapply (part6_run c (wb m c) _ _ _ _ _) $$ HW
  iintro HW
  dsimp only
  rw [wp_bind]
  iapply (part7_run c (wb m c) _ _ _ _ _) $$ HW
  iintro HW
  dsimp only
  rw [wp_bind]
  iapply (part8_run m c _ _ _ _ _ rfl) $$ [HW P1 GB]
  · isplitl [HW]; · iexact HW
    isplitl [P1]; · iexact P1
    iexact GB
  iintro ⟨HW, P1, GB⟩
  dsimp only
  rw [wp_bind]
  iapply (part9_run c (wb m c) _ _ _) $$ HW
  iintro HW
  dsimp only
  rw [wp_bind]
  iapply (part10_run c (wb m c) _ _ _ _ _) $$ HW
  iintro HW
  dsimp only
  rw [wp_bind]
  iapply (part11_run c (wb m c) _ _ _ _ _) $$ HW
  iintro HW
  dsimp only
  rw [wp_bind]
  iapply (part12_run c (wb m c) _ _ _ _ _ _) $$ HW
  iintro HW
  dsimp only
  rw [wp_bind]
  iapply (part13_run m K c v4 v6 _ _ _ _ rfl) $$ [HO R2 R3 P2 HW]
  · isplitr; · iexact HR
    isplitr; · iexact HL
    isplitl [HO]; · iexact HO
    isplitl [R2]; · iexact R2
    isplitl [R3]; · iexact R3
    isplitl [P2]; · iexact P2
    iexact HW
  iintro ⟨HO, ZR2, ZR3, P2, GC, HW⟩
  dsimp only
  rw [wp_bind]
  iapply (part14_run c (wb m c) _ _) $$ HW
  iintro HW
  dsimp only
  rw [wp_bind]
  iapply (part15_run c (wb m c) _ _ _ _ _ _ _ _) $$ HW
  iintro HW
  dsimp only
  rw [wp_bind]
  iapply (part16_run c (wb m c) _ _ _ _ _ _) $$ HW
  iintro HW
  dsimp only
  rw [wp_bind]
  iapply (part17_run c (wb m c) _ _ _ _ _) $$ HW
  iintro HW
  dsimp only
  rw [wp_bind]
  iapply (part18_run m c v6 _ _ rfl) $$ [HW P3 SA SB]
  · isplitl [HW]; · iexact HW
    isplitl [P3]; · iexact P3
    isplitl [SA]; · iexact SA
    iexact SB
  iintro ⟨HW, P3, SA, SB⟩
  rw [wp_bind]
  iapply (part19_run m K c v4) $$ [HO SA SB D4 D5 S4 S5 X HW]
  · isplitr; · iexact HR
    isplitl [HO]; · iexact HO
    isplitl [SA]; · iexact SA
    isplitl [SB]; · iexact SB
    isplitl [D4]; · iexact D4
    isplitl [D5]; · iexact D5
    isplitl [S4]; · iexact S4
    isplitl [S5]; · iexact S5
    isplitl [X]; · iexact X
    iexact HW
  iintro ⟨HO, T4, T5, X, HW⟩
  rw [wp_bind]
  iapply (part20_run c (wb m c) _ _ _ _) $$ HW
  iintro HW
  dsimp only
  rw [wp_bind]
  iapply (part21_run c (wb m c) _ _ _ _ _ _) $$ HW
  iintro HW
  dsimp only
  rw [wp_bind]
  iapply (part22_run c (wb m c) _ _ _ _ _ _) $$ HW
  iintro HW
  dsimp only
  rw [wp_bind]
  iapply (part23_run m c v6 _ _ _ _ _ _ _ _ rfl) $$ [HW P0]
  · isplitl [HW]; · iexact HW
    iexact P0
  iintro ⟨HW, P0⟩
  rw [wp_bind]
  iapply (part24_run m K c v6) $$ [HO R4 P2 A0t A0b]
  · isplitr; · iexact HR
    isplitr; · iexact HL
    isplitl [HO]; · iexact HO
    isplitl [R4]; · iexact R4
    isplitl [P2]; · iexact P2
    isplitl [A0t]; · iexact A0t
    iexact A0b
  iintro ⟨HO, ZR4, RA, P2, A0t, A0b⟩
  rw [wp_bind]
  iapply (part25_run m K c v4) $$ [HO A0t A0b D6 S6 R5 P1 A1t A1b]
  · isplitr; · iexact HR
    isplitr; · iexact HL
    isplitl [HO]; · iexact HO
    isplitl [A0t]; · iexact A0t
    isplitl [A0b]; · iexact A0b
    isplitl [D6]; · iexact D6
    isplitl [S6]; · iexact S6
    isplitl [R5]; · iexact R5
    isplitl [P1]; · iexact P1
    isplitl [A1t]; · iexact A1t
    iexact A1b
  iintro ⟨HO, T6, ZR5, RB, P1, A1t, A1b⟩
  rw [wp_bind]
  iapply (part26_run m K c v4 v6) $$ [HO A1t A1b D7 S7 R6 R7]
  · isplitr; · iexact HR
    isplitr; · iexact HL
    isplitl [HO]; · iexact HO
    isplitl [A1t]; · iexact A1t
    isplitl [A1b]; · iexact A1b
    isplitl [D7]; · iexact D7
    isplitl [S7]; · iexact S7
    isplitl [R6]; · iexact R6
    iexact R7
  iintro ⟨HO, T7, ZR6, ZR7, BA, BB⟩
  rw [wp_bind]
  iapply (part27_run m K c) $$ [HO T0 T1 P0 BA BB Hout]
  · isplitr; · iexact HR
    isplitl [HO]; · iexact HO
    isplitl [T0]; · iexact T0
    isplitl [T1]; · iexact T1
    isplitl [P0]; · iexact P0
    isplitl [BA]; · iexact BA
    isplitl [BB]; · iexact BB
    iexact Hout
  iintro ⟨HO, ZS0, ZS1, X0, X1, P0, BA, BB, Hout⟩
  rw [wp_bind]
  iapply (part28_run m K c) $$ [HO T2 T3 T4 T5]
  · isplitr; · iexact HR
    isplitl [HO]; · iexact HO
    isplitl [T2]; · iexact T2
    isplitl [T3]; · iexact T3
    isplitl [T4]; · iexact T4
    iexact T5
  iintro ⟨HO, ⟨ZS2, ZS3, ZS4, ZS5⟩, GAt, GBb, SA, SB⟩
  simp only [Prog.lift, Prog.bind_op, Prog.bind_ret, Prog.pure_eq_ret]
  iapply (wp_snt m K 6 c _ rfl (dst := asA') (show asA'.view.dmaCredit = N 6 from rfl)) $$ [HO T6]
  · isplitr; · iexact HR
    isplitl [HO]; · iexact HO
    iexact T6
  iintro ⟨HO, ZS6, Y6⟩
  iapply (wp_snt m K 7 c _ rfl (dst := asB') (show asB'.view.dmaCredit = N 7 from rfl)) $$ [HO T7]
  · isplitr; · iexact HR
    isplitl [HO]; · iexact HO
    iexact T7
  iintro ⟨HO, ZS7, Y7⟩
  rw [wp_ret]; imodintro
  iapply HQ
  isplitl [HO]; · iexact HO
  isplitl [Zb ZS0 ZR0 ZS1 ZR1 ZS2 ZR2 ZS3 ZR3 ZS4 ZR4 ZS5 ZR5 ZS6 ZR6 ZS7 ZR7]
  · unfold zeros
    rw [fin8 fun i => semVal (sCell i c) 0, fin8 fun i => semVal (rCell i c) 0]
    isplitl [Zb]; · iexact Zb
    isplitl [ZS0 ZS1 ZS2 ZS3 ZS4 ZS5 ZS6 ZS7]
    · isplitl [ZS0]; · iexact ZS0
      isplitl [ZS1]; · iexact ZS1
      isplitl [ZS2]; · iexact ZS2
      isplitl [ZS3]; · iexact ZS3
      isplitl [ZS4]; · iexact ZS4
      isplitl [ZS5]; · iexact ZS5
      isplitl [ZS6]; · iexact ZS6
      iexact ZS7
    isplitl [ZR0]; · iexact ZR0
    isplitl [ZR1]; · iexact ZR1
    isplitl [ZR2]; · iexact ZR2
    isplitl [ZR3]; · iexact ZR3
    isplitl [ZR4]; · iexact ZR4
    isplitl [ZR5]; · iexact ZR5
    isplitl [ZR6]; · iexact ZR6
    iexact ZR7
  isplitl [X0 X1 X GA GAb GAt GB GBt GBb GC HW P0 P1 P2 P3 SA SB RA RB Y6 Y7 BA BB]
  · iapply (put_together m c)
    unfold leftovers
    isplitl [X0 X1 X]
    · isplitl [X0]; · iexact X0
      isplitl [X1]; · iexact X1
      iexact X
    isplitl [GA GAb GAt]
    · isplitl [GA]; · iexact GA
      isplitl [GAb]; · iexact GAb
      iexact GAt
    isplitl [GB GBt GBb]
    · isplitl [GB]; · iexact GB
      isplitl [GBt]; · iexact GBt
      iexact GBb
    isplitl [GC]; · iexact GC
    isplitl [HW]; · iexact HW
    isplitl [P0 P1 P2 P3]
    · isplitl [P0]; · iexact P0
      isplitl [P1]; · iexact P1
      isplitl [P2]; · iexact P2
      iexact P3
    isplitl [SA SB]
    · isplitl [SA]; · iexact SA
      iexact SB
    isplitl [RA RB]
    · isplitl [RA]; · iexact RA
      iexact RB
    isplitl [Y6 Y7]
    · isplitl [Y6]; · iexact Y6
      iexact Y7
    isplitl [BA]; · iexact BA
    iexact BB
  isplitl [Ix Iq Io Ik Iv]
  · isplitl [Ix]; · iexact Ix
    isplitl [Iq]; · iexact Iq
    isplitl [Io]; · iexact Io
    isplitl [Ik]; · iexact Ik
    iexact Iv
  iexact Hout

end Cert.KernelIdealRun

end
-- ==== Proof.KernelIdealLaunch.lean ====
/-
# 01_k — the launch

The cells' schedules are put up, each device is dealt its places, its tokens and the credit of what it will receive, and
the devices run together. The result: every execution ends, with each device's result as computed, the arguments as they
were, and every semaphore at zero.
-/
module

public import proofs.«01_k».proof.Proof.KernelIdealMain
public import Idealize.ShloMosaic.Lib.Pipeline.CollectiveSegs

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the pipeline -/

def start (c : Dev nD) : sProp 𝕄 := iprop((∃ K, records m K ∗ linear c) ∗ credits c ∗ levAts L lv)
def Φ₀ (c : Dev nD) : sProp 𝕄 := iprop(start m c ∗ scratches c)
def Φ₁ (c : Dev nD) : sProp 𝕄 := iprop(zeros (F := F) c ∗ scratches c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => wkIn m c
    | ⟨4, _⟩ => wvIn m c
    | ⟨5, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staged buffer. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_open (c : Dev nD) (b : Ref sig .tc) (X : b.ty.Contents (Elt F)) : (stg c b X : sProp 𝕄) ⊢ hold c b fullShare X := by
  iintro ⟨%f, %hf, H⟩; subst hf; iexact H
theorem stg_close (c : Dev nD) (b : Ref sig .tc) (X : b.ty.Contents (Elt F)) : (hold c b fullShare X : sProp 𝕄) ⊢ stg c b X := by
  iintro H; iexists X; isplitr; · (ipureintro; rfl)
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def bodyPost (c : Dev nD) : sProp 𝕄 :=
  iprop(Φ₁ (F := F) c ∗ (dats m ρ 0 c).owesAt () t0_0.succ
    ∗ stg c cc0_stg0_0 (xIn m c) ∗ stg c cc0_stg1_0 (wqIn m c) ∗ stg c cc0_stg2_0 (woIn m c) ∗ stg c cc0_stg3_0 (wkIn m c)
    ∗ stg c cc0_stg4_0 (wvIn m c) ∗ stg c cc0_stg5_0 (outV m c))

theorem at_zero (n k : ℕ) : 0 * n + 1 * k = k := by omega
/-- The staged block of an input is the whole input. -/
theorem before0 (c : Dev nD) (d) : (dats m ρ 0 c).before (0 : Fin 6) t0_0 d = xIn m c := by
  unfold Dat.before; rw [if_pos (fetch0_0 t0_0)]
  exact funext fun j => congrArg (xIn m c) (funext fun a => Fin.ext (at_zero _ _))
theorem before1 (c : Dev nD) (d) : (dats m ρ 0 c).before (1 : Fin 6) t0_0 d = wqIn m c := by
  unfold Dat.before; rw [if_pos (fetch0_1 t0_0)]
  exact funext fun j => congrArg (wqIn m c) (funext fun a => Fin.ext (at_zero _ _))
theorem before2 (c : Dev nD) (d) : (dats m ρ 0 c).before (2 : Fin 6) t0_0 d = woIn m c := by
  unfold Dat.before; rw [if_pos (fetch0_2 t0_0)]
  exact funext fun j => congrArg (woIn m c) (funext fun a => Fin.ext (at_zero _ _))
theorem before3 (c : Dev nD) (d) : (dats m ρ 0 c).before (3 : Fin 6) t0_0 d = wkIn m c := by
  unfold Dat.before; rw [if_pos (fetch0_3 t0_0)]
  exact funext fun j => congrArg (wkIn m c) (funext fun a => Fin.ext (at_zero _ _))
theorem before4 (c : Dev nD) (d) : (dats m ρ 0 c).before (4 : Fin 6) t0_0 d = wvIn m c := by
  unfold Dat.before; rw [if_pos (fetch0_4 t0_0)]
  exact funext fun j => congrArg (wvIn m c) (funext fun a => Fin.ext (at_zero _ _))

theorem owes_in (c : Dev nD) : (dats m ρ 0 c).owesAt () t0_0.castSucc ⊢ ow c (O₀ c) := by
  unfold ow
  iintro ⟨%W, %hW, HO⟩
  iexists W; iexact HO
theorem owes_out (c : Dev nD) : ow c 0 ⊢ (dats m ρ 0 c).owesAt () t0_0.succ := by
  unfold ow
  iintro ⟨%W, HO⟩
  iexists W
  isplitr; · ipureintro; exact fun _ _ => Or.inl trivial
  iexact HO

theorem body_ok (c : Dev nD) : bodyPre m ρ c ⊢ wpk c (onBufs (cc0_body (F := F))) (fun _ => bodyPost m ρ c) := by
  unfold bodyPre Φ₀ start
  simp only [before0, before1, before2, before3, before4]
  iintro ⟨⟨⟨⟨%K, #HR, Hlin⟩, Hcr, #HL⟩, Hsc⟩, Ho, ⟨%d0, I0⟩, ⟨%d1, I1⟩, ⟨%d2, I2⟩, ⟨%d3, I3⟩, ⟨%d4, I4⟩, ⟨%d5, %f, -, I5⟩⟩
  ihave HO := (owes_in m ρ c) $$ Ho
  ihave I0 := (stg_open c cc0_stg0_0 (xIn m c)) $$ I0
  ihave I1 := (stg_open c cc0_stg1_0 (wqIn m c)) $$ I1
  ihave I2 := (stg_open c cc0_stg2_0 (woIn m c)) $$ I2
  ihave I3 := (stg_open c cc0_stg3_0 (wkIn m c)) $$ I3
  ihave I4 := (stg_open c cc0_stg4_0 (wvIn m c)) $$ I4
  iapply (sound_body m K c) $$ [HO Hlin Hcr Hsc I0 I1 I2 I3 I4 I5]
  · isplitr; · iexact HR
    isplitr; · iexact HL
    isplitl [HO]; · iexact HO
    isplitl [Hlin]; · iexact Hlin
    isplitl [Hcr]; · iexact Hcr
    isplitl [Hsc]; · iexact Hsc
    isplitl [I0 I1 I2 I3 I4]
    · unfold inputs
      isplitl [I0]; · iexact I0
      isplitl [I1]; · iexact I1
      isplitl [I2]; · iexact I2
      isplitl [I3]; · iexact I3
      iexact I4
    iexists f; iexact I5
  unfold inputs bodyPost Φ₁
  iintro ⟨HO, Hz, Hsc, ⟨I0, I1, I2, I3, I4⟩, I5⟩
  isplitl [Hz Hsc]
  · isplitl [Hz] <;> iassumption
  isplitl [HO]; · iapply (owes_out m ρ c); iexact HO
  isplitl [I0]; · iapply (stg_close c cc0_stg0_0 (xIn m c)); iexact I0
  isplitl [I1]; · iapply (stg_close c cc0_stg1_0 (wqIn m c)); iexact I1
  isplitl [I2]; · iapply (stg_close c cc0_stg2_0 (woIn m c)); iexact I2
  isplitl [I3]; · iapply (stg_close c cc0_stg3_0 (wkIn m c)); iexact I3
  isplitl [I4]; · iapply (stg_close c cc0_stg4_0 (wvIn m c)); iexact I4
  iapply (stg_close c cc0_stg5_0 (outV m c)); iexact I5

theorem body_obligation (c : Dev nD) : BodyObligation (dats (F := F) m ρ 0 c) (defs₀ (F := F)) 𝒱₀ () Set.univ := fun t => by
  rw [fin_N0 t, bigSep_W0, bigSep_W0]
  simp only [owns_whole_eq]
  exact body_ok m ρ c

/-! ## The cells and tokens of the launch -/

/-- The kernel's own semaphores: all its cells but the barrier's. -/
abbrev osem' (k : Fin 16) : SemLoc sig := osem k.succ
theorem ownSemFacts : Pipeline.OwnSemFacts cfg0.spec osem' := by decide

theorem share_eq (c : Dev nD) (w : Fin cfg0.W) : (dats m ρ 0 c).share w = fullShare := by unfold Dat.share; split <;> rfl

theorem osem_injective : Function.Injective osem := by decide
theorem kcell_injective : Function.Injective (kcell : Dev nD × Fin 17 → GSem nD τ sig) := fun x y h =>
  Prod.ext (congrArg (fun g : GSem nD τ sig => g.1.1) h) (osem_injective (congrArg Prod.snd h))
def ringCells : Finset (GSem nD τ sig) := Finset.univ.map ⟨kcell, kcell_injective⟩

/-- The duties of one device's cells: the barrier's two, and one of each send and each receive cell. -/
abbrev Duty : Type := Bool ⊕ (Fin 8 ⊕ Fin 8)
abbrev tokOf (cj : Dev nD × Duty) : GSem nD τ sig × ℕ × Bool := match cj.2 with
  | .inl b => (barCell cj.1, 0, b)
  | .inr (.inl i) => (sCell i cj.1, 0, false)
  | .inr (.inr i) => (rCell i cj.1, 0, false)
/-- Which cell of its device a duty is of, and which of the cell's duties it is. -/
abbrev dutyOf (j : Duty) : SemLoc sig × Bool := match j with
  | .inl b => (.reg barS.sem, b)
  | .inr (.inl i) => (.dma (sS i), false)
  | .inr (.inr i) => (.dma (rS i), false)
theorem dutyOf_injective : Function.Injective dutyOf := by decide
theorem tokOf_eq (c : Dev nD) (j : Duty) : tokOf (c, j) = (((c : Thread nD τ), (dutyOf j).1), 0, (dutyOf j).2) := by
  rcases j with b | i | i <;> rfl
theorem tokOf_injective : Function.Injective (tokOf : Dev nD × Duty → GSem nD τ sig × ℕ × Bool) := by
  rintro ⟨c, j⟩ ⟨c', j'⟩ h
  rw [tokOf_eq, tokOf_eq] at h
  have h1 : c = c' := congrArg (fun x : GSem nD τ sig × ℕ × Bool => x.1.1.1) h
  have h2 : dutyOf j = dutyOf j' :=
    Prod.ext (congrArg (fun x : GSem nD τ sig × ℕ × Bool => x.1.2) h) (congrArg (fun x : GSem nD τ sig × ℕ × Bool => x.2.2) h)
  rw [h1, dutyOf_injective h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true
    ∗ (bigSep Finset.univ fun i : Fin 8 => dutyTok ER (sCell i c) 0 false) ∗ bigSep Finset.univ fun i : Fin 8 => dutyTok ER (rCell i c) 0 false)

theorem toks_eq (c : Dev nD) : (bigSep Finset.univ fun j : Duty => dutyTok ER (tokOf (c, j)).1 (tokOf (c, j)).2.1 (tokOf (c, j)).2.2 : sProp 𝕄) = toks c := by
  rw [bigSep_univ_sum, bigSep_univ_sum, bigSep_univ_eq_bigSepL [false, true] (by decide) (by decide), bigSepL_cons_cons, bigSepL_singleton]
  unfold toks
  exact Entails.antisymm BI.sep_assoc BI.sep_assoc'

/-- What the launch deals device `c` before the cells are shared, -/
def G (c : Dev nD) : sProp 𝕄 :=
  iprop((bigSep Finset.univ fun k : Fin 17 => roundState ER (ringRd m) (kcell (c, k)) 0)
    ∗ (bigSep Finset.univ fun k : Fin 17 => iprop(atPos ER (kcell (c, k)) 0 ∅ 0 ∗ reached ER (kcell (c, k)) 0)) ∗ toks c)
/-- and after. -/
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS.sem] (by decide) (by decide)]; rfl

/-- The kernel's own semaphores and the barrier's are the device's cells. -/
theorem sems_eq (c : Dev nD) :
    (iprop(unscopedSems0 c ∗ Pipeline.ownSems0 (Ix := Unit) (Name := ℕ) (U := UU) (Lvl := ℕ) (Val := Elt F) (τ := τ) osem' c) : sProp 𝕄)
      = bigSep Finset.univ fun k : Fin 17 => semVal (kcell (c, k)) 0 := by
  rw [unscopedSems0_eq, bigSep_univ_equiv (finSuccEquiv 16).symm, bigSep_univ_equiv (Equiv.optionEquivSumPUnit (Fin 16)).symm, bigSep_univ_sum,
    show (Finset.univ : Finset PUnit.{1}) = {⟨⟩} from rfl, bigSep_singleton]
  exact Entails.antisymm BI.sep_comm BI.sep_comm

theorem core_alloc (c : Dev nD) :
    iprop(Pipeline.ownSems0 (Ix := Unit) (Name := ℕ) (U := UU) (Lvl := ℕ) (Val := Elt F) (τ := τ) osem' c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 17 => semVal (kcell (c, k)) 0) ∗ bigSep Finset.univ fun k : Fin 17 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

def ring : Dev nD ≃ Dev nD := ⟨nxt, prv, prv_nxt, nxt_prv⟩
/-- Where transfer `i` goes, as a rearrangement of the devices. -/
def goes (i : Fin 8) : Dev nD ≃ Dev nD := ⟨tgt i, fr i, fr_tgt i, tgt_fr i⟩

/-- Two products commute. -/
theorem swap (Φ : Dev nD → Fin 8 → sProp 𝕄) :
    (bigSep Finset.univ fun c : Dev nD => bigSep Finset.univ fun i : Fin 8 => Φ c i) = bigSep Finset.univ fun i : Fin 8 => bigSep Finset.univ fun c : Dev nD => Φ c i := by
  rw [← bigSep_univ_prod (fun x : Dev nD × Fin 8 => Φ x.1 x.2), ← bigSep_univ_prod (fun x : Fin 8 × Dev nD => Φ x.2 x.1),
    bigSep_univ_equiv (Equiv.prodComm (Fin 8) (Dev nD))]
  rfl

/-- The tokens of the devices' own cells are the tokens the devices pay with. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    swap (fun (c : Dev nD) (i : Fin 8) => (dutyTok ER (rCell i c) 0 false : sProp 𝕄)),
    swap (fun (c : Dev nD) (i : Fin 8) => (dutyTok ER (rCell i (tgt i c)) 0 false : sProp 𝕄))]
  rw [bigSep_congr (s := Finset.univ) fun (i : Fin 8) _ => bigSep_univ_equiv (goes i) (fun c : Dev nD => (dutyTok ER (rCell i c) 0 false : sProp 𝕄))]
  exact .rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give (K : Dev nD × Fin 17 → ℕ) (c : Dev nD) : iprop(records m K ∗ linear c) ⊢ G' m c := by
  unfold G'; iintro H; iexists K; iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (ringRd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (ringRd m) κ (kcell ck) : sProp 𝕄))) $$ HI
  icases HK with ⟨%K, #HI⟩
  ihave Htk := (toks_around (F := F)) $$ Htok
  iapply (with_persistent (R := records m K) fun c _ => give m K c)
  isplitr
  · unfold records; isplitl; · iexact HI
    iexact HR
  unfold linear
  iapply (Entails.of_eq (bigSep_sep' Finset.univ (fun c : Dev nD => bigSep Finset.univ fun k : Fin 17 => (atPos ER (kcell (c, k)) 0 ∅ 0 : sProp 𝕄)) payToks).symm)
  isplitl [Hat]; · iexact Hat
  iexact Htk

theorem glob : (bigSep Finset.univ fun c => iprop(Pipeline.ownSems0 (Ix := Unit) (Name := ℕ) (U := UU) (Lvl := ℕ) (Val := Elt F) (τ := τ) osem' c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- The credit of the receive cells in a list, one after the other. -/
def credOf (c : Dev nD) : List (Fin 8) → sProp 𝕄
  | [] => iprop(emp)
  | i :: l => iprop(credOf c l ∗ cred (tallyAt (rCell i c) () (N i)))

/-- What the devices owe by the transfers in a list is dealt as that credit. -/
theorem cred_list (c : Dev nD) : ∀ l : List (Fin 8), (Pipeline.launchCred (OX l) c : sProp 𝕄) ⊢ credOf c l
  | [] => Entails.of_eq (Pipeline.launchCred_zero c)
  | i :: l => (Entails.of_eq (Pipeline.launchCred_add (OX l) (fun d => tallyAt (rCell i (tgt i d)) () (N i)) c)).trans
      (BI.sep_mono (cred_list c l) (Pipeline.launchCred_tallyAt (.dma (rS i)) (tgt i) (fr i) (tgt_fr i) (fr_tgt i) () (N i) c))

theorem creds (c : Dev nD) : (Pipeline.launchCred O₀ c : sProp 𝕄) ⊢ credits c := by
  refine (Entails.of_eq (Pipeline.launchCred_add O₁ (fun d => tallyAt (barCell (prv d)) () 1) c)).trans ?_
  refine (sep_mono_left (Entails.of_eq (Pipeline.launchCred_add (OX all8) (fun d => tallyAt (barCell (nxt d)) () 1) c))).trans ?_
  unfold credits
  iintro ⟨⟨HX, H1⟩, H2⟩
  ihave H1 := (Pipeline.launchCred_tallyAt (.reg barS.sem) nxt prv nxt_prv prv_nxt () 1 c) $$ H1
  ihave H2 := (Pipeline.launchCred_tallyAt (.reg barS.sem) prv nxt prv_nxt nxt_prv () 1 c) $$ H2
  ihave HX := (cred_list c all8) $$ HX
  simp only [credOf]
  isplitl [H1 H2]
  · iapply ((cred_add (tallyAt (barCell c) () 1) (tallyAt (barCell c) () 1)).2.trans (Entails.of_eq (congrArg cred (tallyAt_add (barCell c) () 1 1))))
    isplitl [H1]; · iexact H1
    iexact H2
  rw [fin8 fun i => cred (tallyAt (rCell i c) () (N i))]
  icases HX with ⟨⟨⟨⟨⟨⟨⟨⟨-, H7⟩, H6⟩, H5⟩, H4⟩, H3⟩, H2⟩, H1⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The side conditions of the launch, and the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, HG⟩
  ihave Hc := (creds (F := F) c) $$ Hcr
  imodintro
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem' c ∗ Pipeline.scopedRest cfg0.spec c) := by
  rw [show (dats m ρ 0 c).Φ (Fin.last cfg0.N) = Φ₁ c from rfl, scopedRest0_eq]
  unfold Φ₁ zeros scratches
  iintro ⟨Hz, Hr⟩
  ihave Hz := (Entails.of_eq ((sems_eq (F := F) c).trans (cells_eq c fun g => semVal g 0)).symm) $$ Hz
  icases Hz with ⟨Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution from counters at zero ends, with each array at its computed contents and every counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's one block is the whole array, and is what the body left staged. -/
theorem finalA_out (c : Dev nD) : finalA m ρ c (5 : Fin 6) = outV m c := by
  have h : (win0_5.blk (0 : Fin 1)).view.read (Elt F) (finalA m ρ c (5 : Fin 6)) = outV m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [← h]
  exact funext fun j => congrArg (finalA m ρ c (5 : Fin 6)) (funext fun a => Fin.ext (at_zero _ _).symm)

/-- Every execution ends, with each device's result as computed, its arguments as they were, and every counter at zero. -/
theorem run_main : θ_run defs (onTc (τ := τ) (main (F := F))) (s₀ m ρ) (fun r =>
    (∀ c : Dev nD, r.2.mem ((c : Thread nD τ).loc main_v1) = outV m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h => ⟨fun c => ⟨(h.1 c (5 : Fin 6)).trans (finalA_out m ρ c),
    (h.1 c (0 : Fin 6)).trans ((dats (F := F) m ρ 0 c).arrAt_in (0 : Fin 6) rfl _),
    (h.1 c (1 : Fin 6)).trans ((dats (F := F) m ρ 0 c).arrAt_in (1 : Fin 6) rfl _),
    (h.1 c (3 : Fin 6)).trans ((dats (F := F) m ρ 0 c).arrAt_in (3 : Fin 6) rfl _),
    (h.1 c (4 : Fin 6)).trans ((dats (F := F) m ρ 0 c).arrAt_in (4 : Fin 6) rfl _),
    (h.1 c (2 : Fin 6)).trans ((dats (F := F) m ρ 0 c).arrAt_in (2 : Fin 6) rfl _)⟩, h.2⟩) (run_arrays m ρ)

end Cert.KernelIdealRun

end
-- ==== Proof.KernelIdealHeads.lean ====
/-
# 01_k — one device's contribution to one batch, once

The program's text repeats, for each of the four batches, the same chain of operations over the eight heads of a device,
cut at different places. This module states the chain once, by head, and shows that each of the four copies is it.
-/
module

public import proofs.«01_k».proof.Proof.KernelIdealVals

@[expose] public section

set_option maxRecDepth 16384

noncomputable section

namespace Cert.KernelIdealRun

open Cert.KernelIdeal Cert.KernelIdeal.Gen
open Idealize.ShloMosaic

variable {F : FTy → Type} [FloatOps F]

/-- A projection of a batch's rows by a matrix of weights, rounded. -/
def proj (x : FVec F S256x1024 .bf16) (w : Vec F S1x1024x1024 .bf16) : FVec F S256x1024 .bf16 :=
  truncf .bf16 (matmul dot_S256x1024_S1024x1024_S256x1024_1_0_0_1_n_n none x
    (shapeCast S1024x1024 w shapeCasts_S1x1024x1024_S1024x1024) (constant S256x1024 .f32 0x00000000#32)) bitsLt_bf16_f32

/-- The scores of one head: every query row against every key row. -/
def scores (q k : FVec F S256x128 .bf16) : FVec F S256x256 .f32 :=
  matmul dot_S256x128_S256x128_S256x256_1_1_0_0_n_n none q k (constant S256x256 .f32 0x00000000#32)

/-- The exponentials of a head's scores, each row's largest score subtracted first. -/
def weights (s : FVec F S256x256 .f32) : FVec F S256x256 .f32 :=
  exp (subf s (broadcastTo S256x256 (shapeCast S256x1
    (multiReduction .maximumf [1] S256 s 0xFF800000#32 reduces_S256x256_S256 (.inl rfl) rfl)
    shapeCasts_S256_S256x1) broadcasts_S256x1_S256x256))

/-- The output of one head: the value rows averaged by the exponentials. -/
def mix (p : FVec F S256x256 .f32) (v : FVec F S256x128 .bf16) : FVec F S256x128 .f32 :=
  divf (matmul dot_S256x256_S256x128_S256x128_1_0_0_1_n_n none (truncf .bf16 p bitsLt_bf16_f32) v
      (constant S256x128 .f32 0x00000000#32))
    (broadcastTo S256x128 (shapeCast S256x1
      (multiReduction .add [1] S256 p 0x00000000#32 reduces_S256x256_S256 (.inl rfl) rfl)
      shapeCasts_S256_S256x1) broadcasts_S256x1_S256x128)

/-- The contribution of the head whose columns begin at `o`: its output times its rows of the output weights. -/
def head (o : ℕ) (hq : S256x1024.Slices ![0, o] S256x128) (hw : S1024x1024.Slices ![o, 0] S128x1024)
    (q k v : FVec F S256x1024 .bf16) (w : Vec F S1x1024x1024 .bf16) : FVec F S256x1024 .f32 :=
  matmul dot_S256x128_S128x1024_S256x1024_1_0_0_1_n_n none
    (truncf .bf16 (mix (weights (scores (extractStridedSlice S256x128 ![0, o] q hq) (extractStridedSlice S256x128 ![0, o] k hq)))
      (extractStridedSlice S256x128 ![0, o] v hq)) bitsLt_bf16_f32)
    (extractStridedSlice S128x1024 ![o, 0] (shapeCast S1024x1024 w shapeCasts_S1x1024x1024_S1024x1024) hw)
    (constant S256x1024 .f32 0x00000000#32)

/-- The contributions of the eight heads, added up from the first to the last. -/
def heads (q k v : FVec F S256x1024 .bf16) (w : Vec F S1x1024x1024 .bf16) : FVec F S256x1024 .f32 :=
  (addf (addf (addf (addf (addf (addf (addf (head 0 slices_S256x1024_o0_0_S256x128 slices_S1024x1024_o0_0_S128x1024 q k v w)
    (head 128 slices_S256x1024_o0_128_S256x128 slices_S1024x1024_o128_0_S128x1024 q k v w))
    (head 256 slices_S256x1024_o0_256_S256x128 slices_S1024x1024_o256_0_S128x1024 q k v w))
    (head 384 slices_S256x1024_o0_384_S256x128 slices_S1024x1024_o384_0_S128x1024 q k v w))
    (head 512 slices_S256x1024_o0_512_S256x128 slices_S1024x1024_o512_0_S128x1024 q k v w))
    (head 640 slices_S256x1024_o0_640_S256x128 slices_S1024x1024_o640_0_S128x1024 q k v w))
    (head 768 slices_S256x1024_o0_768_S256x128 slices_S1024x1024_o768_0_S128x1024 q k v w))
    (head 896 slices_S256x1024_o0_896_S256x128 slices_S1024x1024_o896_0_S128x1024 q k v w))

/-- A device's contribution to a batch. -/
def contrib (x : FVec F S256x1024 .bf16) (w0 w1 w2 w3 : Vec F S1x1024x1024 .bf16) : FVec F S256x1024 .f32 :=
  heads (proj x w0) (proj x w1) (proj x w2) w3

/-- The chain for the batch from one down is the contribution, -/
theorem part1_eq (x : Vec F S1x256x1024 .bf16) (w0 w1 w2 w3 : Vec F S1x1024x1024 .bf16) :
    part1 x w0 w1 w2 w3 = shapeCast S1x256x1024 (contrib (shapeCast S256x1024 x shapeCasts_S1x256x1024_S256x1024) w0 w1 w2 w3)
      shapeCasts_S256x1024_S1x256x1024 := rfl

/-- so is the chain for the batch from one up, -/
theorem part2_eq (x : Vec F S1x256x1024 .bf16) (w0 w1 w2 w3 : Vec F S1x1024x1024 .bf16) :
    part2 x w0 w1 w2 w3 = shapeCast S1x256x1024 (contrib (shapeCast S256x1024 x shapeCasts_S1x256x1024_S256x1024) w0 w1 w2 w3)
      shapeCasts_S256x1024_S1x256x1024 := rfl

/-- the chain for the batch from two away, -/
theorem part3_eq (x : Vec F S1x256x1024 .bf16) (w0 w1 w2 w3 : Vec F S1x1024x1024 .bf16) :
    part3 x w0 w1 w2 w3 = shapeCast S1x256x1024 (contrib (shapeCast S256x1024 x shapeCasts_S1x256x1024_S256x1024) w0 w1 w2 w3)
      shapeCasts_S256x1024_S1x256x1024 := rfl

/-- and the chain for the device's own batch. -/
theorem part0_eq (x : Vec F S256x1024 .bf16) (w0 w1 w2 w3 : Vec F S1x1024x1024 .bf16) :
    part0 x w0 w1 w2 w3 = shapeCast S1x256x1024 (contrib x w0 w1 w2 w3) shapeCasts_S256x1024_S1x256x1024 := rfl

end Cert.KernelIdealRun

end
-- ==== Proof.Attention.lean ====
/-
# 01_k — attention of one head over the extended reals

The mathematics that the kernel and the reference share, with no program in it: the scores of one head over 256 rows,
their exponentials after the largest of each row is subtracted, and the average of the value rows by these. The scale
may be put on the scores or on the query weights: it is a positive number, and over the extended reals a product by a
positive number goes through every sum.
-/
module

public import Idealize.ShloMosaic.Lib.Pointwise
public import Idealize.ShloMosaic.Lib.IdealHost

@[expose] public section

noncomputable section

namespace Cert.Attention

open Idealize.ShloMosaic

/-- The exponentials of scores, each row's largest subtracted. -/
def wts (S : Fin 256 → Fin 256 → EReal) (i j : Fin 256) : EReal :=
  Ideal.exp (S i j - Finset.fold max ⊥ (fun x => S i x) Finset.univ)

/-- The value rows averaged by weights. -/
def avg (P : Fin 256 → Fin 256 → EReal) (V : Fin 256 → Fin 128 → EReal) (i : Fin 256) (d : Fin 128) : EReal :=
  Ideal.div (∑ j, P i j * V j d) (∑ j, P i j)

/-- One head: `X` the rows of a batch, `Wq`, `Wk`, `Wv` the head's columns of the weights, `s` the scale. -/
def att (s : EReal) (X : Fin 256 → Fin 1024 → EReal) (Wq Wk Wv : Fin 1024 → Fin 128 → EReal) (i : Fin 256) (d : Fin 128) : EReal :=
  avg (wts fun i j => (∑ d, (∑ k, X i k * Wq k d) * (∑ k, X j k * Wk k d)) * s) (fun j d => ∑ k, X j k * Wv k d) i d

/-- A product by a number that is not negative goes through a sum. -/
theorem sum_mul_real {ι : Type*} (S : Finset ι) (f : ι → EReal) {s : EReal} (h0 : 0 ≤ s) (ht : s ≠ ⊤) :
    (∑ i ∈ S, f i) * s = ∑ i ∈ S, f i * s := by
  classical
  induction S using Finset.induction_on with
  | empty => simp
  | insert a S ha ih => rw [Finset.sum_insert ha, Finset.sum_insert ha, EReal.right_distrib_of_nonneg_of_ne_top h0 ht, ih]

/-- Scores of queries that were projected by scaled weights are scaled scores. -/
theorem scores_scaled {s : EReal} (h0 : 0 ≤ s) (ht : s ≠ ⊤) (x y : Fin 1024 → EReal) (A B : Fin 1024 → Fin 128 → EReal) :
    ∑ d, (∑ k, x k * (A k d * s)) * (∑ k, y k * B k d) = (∑ d, (∑ k, x k * A k d) * (∑ k, y k * B k d)) * s := by
  rw [sum_mul_real _ _ h0 ht]
  refine Finset.sum_congr rfl fun d _ => ?_
  have : ∑ k, x k * (A k d * s) = (∑ k, x k * A k d) * s := by
    rw [sum_mul_real _ _ h0 ht]
    exact Finset.sum_congr rfl fun k _ => (mul_assoc _ _ _).symm
  rw [this, mul_right_comm]

/-- The pattern of minus infinity denotes it. -/
theorem ofBits_bot : Ideal.ofBits .f32 0xFF800000#32 = ⊥ := by
  simp [Ideal.ofBits, Ideal.ieee]

/-- The scale, as the number that its pattern denotes. -/
def scale : EReal := Ideal.ofBits .f32 0x3DB504F3#32

/-- The scale is a real number that is not negative: -/
theorem scale_real : ∃ r : ℝ, 0 ≤ r ∧ scale = (r : EReal) := by
  refine ⟨((2 ^ 23 + 3474675 : ℕ) : ℝ) * (2 : ℝ) ^ (-27 : ℤ), by positivity, ?_⟩
  simp [scale, Ideal.ofBits, Ideal.ieee, -EReal.coe_mul]

theorem scale_nonneg : 0 ≤ scale := by
  obtain ⟨r, h, e⟩ := scale_real
  rw [e]; exact_mod_cast h

theorem scale_ne_top : scale ≠ ⊤ := by
  obtain ⟨r, h, e⟩ := scale_real
  rw [e]; exact EReal.coe_ne_top r

/-- A head among several: the head whose columns of weights begin at `o`. -/
def attAt {N : ℕ} (X : Fin 256 → Fin 1024 → EReal) (Wq Wk Wv : Fin 1024 → Fin N → EReal) (o : ℕ) (ho : o + 128 ≤ N)
    (i : Fin 256) (d : Fin 128) : EReal :=
  att scale X (fun k d => Wq k ⟨o + d, by omega⟩) (fun k d => Wk k ⟨o + d, by omega⟩) (fun k d => Wv k ⟨o + d, by omega⟩) i d

/-- The attention at column `t` of all the heads side by side, 128 columns each. -/
def attCol {N : ℕ} (hN : N % 128 = 0) (X : Fin 256 → Fin 1024 → EReal) (Wq Wk Wv : Fin 1024 → Fin N → EReal) (i : Fin 256)
    (t : Fin N) : EReal :=
  attAt X Wq Wk Wv (t.val / 128 * 128) (by have := t.isLt; omega) i ⟨t.val % 128, Nat.mod_lt _ (by decide)⟩

/-- The column that a head and a place in it name. -/
theorem attCol_at {N : ℕ} (hN : N % 128 = 0) (X : Fin 256 → Fin 1024 → EReal) (Wq Wk Wv : Fin 1024 → Fin N → EReal) (i : Fin 256)
    (o : ℕ) (ho : o + 128 ≤ N) (hd : o % 128 = 0) (d : Fin 128) (t : Fin N) (ht : t.val = o + d.val) :
    attCol hN X Wq Wk Wv i t = attAt X Wq Wk Wv o ho i d := by
  have h1 : t.val / 128 * 128 = o := by omega
  have h2 : (⟨t.val % 128, Nat.mod_lt _ (by decide)⟩ : Fin 128) = d := Fin.ext (by show t.val % 128 = d.val; omega)
  unfold attCol
  rw [h2]
  congr 1

/-- Columns of a block of the weights are columns of the whole. -/
theorem attCol_block {N M : ℕ} (hN : N % 128 = 0) (hM : M % 128 = 0) (X : Fin 256 → Fin 1024 → EReal)
    (Wq Wk Wv : Fin 1024 → Fin N → EReal) (b : ℕ) (hb : b % 128 = 0) (hbM : b + M ≤ N) (i : Fin 256) (t : Fin M) :
    attCol hN X Wq Wk Wv i ⟨b + t.val, by omega⟩
      = attCol hM X (fun k n => Wq k ⟨b + n.val, by omega⟩) (fun k n => Wk k ⟨b + n.val, by omega⟩)
          (fun k n => Wv k ⟨b + n.val, by omega⟩) i t := by
  have ht := t.isLt
  rw [attCol_at hN X Wq Wk Wv i (b + t.val / 128 * 128) (by omega) (by omega) ⟨t.val % 128, Nat.mod_lt _ (by decide)⟩ _
    (by show b + t.val = b + t.val / 128 * 128 + t.val % 128; omega)]
  unfold attCol attAt
  simp only [Nat.add_assoc]

/-- The contribution of some columns of heads to the output: the attention at each column times its row of the output
    weights. -/
def out {N : ℕ} (hN : N % 128 = 0) (X : Fin 256 → Fin 1024 → EReal) (Wq Wk Wv : Fin 1024 → Fin N → EReal)
    (Wo : Fin N → Fin 1024 → EReal) (i : Fin 256) (n : Fin 1024) : EReal :=
  ∑ t, attCol hN X Wq Wk Wv i t * Wo t n

/-- Eight heads: the contributions of the heads, one by one. -/
theorem out_heads (X : Fin 256 → Fin 1024 → EReal) (Wq Wk Wv : Fin 1024 → Fin 1024 → EReal)
    (Wo : Fin 1024 → Fin 1024 → EReal) (i : Fin 256) (n : Fin 1024) :
    out (N := 1024) rfl X Wq Wk Wv Wo i n
      = ∑ h : Fin 8, ∑ d : Fin 128, attAt X Wq Wk Wv (h.val * 128) (by omega) i d * Wo ⟨h.val * 128 + d.val, by omega⟩ n := by
  unfold out
  rw [Fin.sum_univ_tiles 8 128 rfl]
  refine Finset.sum_congr rfl fun h _ => Finset.sum_congr rfl fun d _ => ?_
  rw [attCol_at rfl X Wq Wk Wv i (h.val * 128) (by omega) (by omega) d _ rfl]

/-- Four blocks of columns: the whole output is the sum of the contributions of the blocks. -/
theorem out_blocks (X : Fin 256 → Fin 1024 → EReal) (Wq Wk Wv : Fin 1024 → Fin 4096 → EReal)
    (Wo : Fin 4096 → Fin 1024 → EReal) (i : Fin 256) (n : Fin 1024) :
    out (N := 4096) rfl X Wq Wk Wv Wo i n
      = ∑ c : Fin 4, out (N := 1024) rfl X (fun k t => Wq k ⟨c.val * 1024 + t.val, by omega⟩)
          (fun k t => Wk k ⟨c.val * 1024 + t.val, by omega⟩) (fun k t => Wv k ⟨c.val * 1024 + t.val, by omega⟩)
          (fun t n => Wo ⟨c.val * 1024 + t.val, by omega⟩ n) i n := by
  unfold out
  rw [Fin.sum_univ_tiles 4 1024 rfl]
  refine Finset.sum_congr rfl fun c _ => Finset.sum_congr rfl fun t _ => ?_
  rw [attCol_block (N := 4096) (M := 1024) rfl rfl X Wq Wk Wv (c.val * 1024) (by omega) (by omega) i t]

end Cert.Attention

end
-- ==== Proof.KernelIdealContrib.lean ====
/-
# 01_k — one device's contribution to one batch, over the extended reals

The chain of operations of KernelIdealHeads, read at an index: it is the contribution of the device's 1024 columns of
heads, as the mathematics of Attention has it.
-/
module

public import proofs.«01_k».proof.Proof.KernelIdealHeads
public import proofs.«01_k».proof.Proof.Attention

@[expose] public section

set_option maxRecDepth 16384

noncomputable section

namespace Cert.KernelIdealRun

open Cert.KernelIdeal Cert.KernelIdeal.Gen
open Idealize.ShloMosaic
open Cert.Attention

/-- A projection at an index is the sum over the features. -/
theorem proj_apply (x : FVec Ideal S256x1024 .bf16) (w : Vec Ideal S1x1024x1024 .bf16) (r : Fin 256) (n : Fin 1024) :
    proj x w (ix2 r n) = ∑ k : Fin 1024, x (ix2 r k) * w (ix3 0 k n) := by
  pointwise [proj]

/-- Exponentials of a head's scores at an index. -/
theorem weights_apply (s : FVec Ideal S256x256 .f32) (i j : Fin 256) :
    weights s (ix2 i j) = wts (fun i j => s (ix2 i j)) i j := by
  pointwise [weights]
  rw [ofBits_bot]
  rfl

/-- A head's output at an index. -/
theorem mix_apply (p : FVec Ideal S256x256 .f32) (v : FVec Ideal S256x128 .bf16) (i : Fin 256) (d : Fin 128) :
    mix p v (ix2 i d) = avg (fun i j => p (ix2 i j)) (fun j d => v (ix2 j d)) i d := by
  pointwise [mix]
  rfl

/-- A head's scores at an index. -/
theorem scores_apply (q k : FVec Ideal S256x128 .bf16) (i j : Fin 256) :
    scores q k (ix2 i j) = ∑ d : Fin 128, q (ix2 i d) * k (ix2 j d) := by
  pointwise [scores]

/-- One head's columns of a projected batch, at an index. -/
theorem cols_apply (o : ℕ) (hq : S256x1024.Slices ![0, o] S256x128) (ho : o + 128 ≤ 1024) (q : FVec Ideal S256x1024 .bf16)
    (i : Fin 256) (d : Fin 128) : extractStridedSlice S256x128 ![0, o] q hq (ix2 i d) = q (ix2 i ⟨o + d, by omega⟩) := by
  pointwise

/-- One head's contribution at an index: its attention times its rows of the output weights. -/
theorem head_apply (o : ℕ) (hq : S256x1024.Slices ![0, o] S256x128) (hw : S1024x1024.Slices ![o, 0] S128x1024)
    (ho : o + 128 ≤ 1024) (x : FVec Ideal S256x1024 .bf16) (w0 w1 w2 w3 : Vec Ideal S1x1024x1024 .bf16)
    (A : Fin 1024 → Fin 1024 → EReal) (hA : ∀ k t, w0 (ix3 0 k t) = A k t * scale) (i : Fin 256) (n : Fin 1024) :
    head o hq hw (proj x w0) (proj x w1) (proj x w2) w3 (ix2 i n)
      = ∑ d : Fin 128, attAt (fun i k => x (ix2 i k)) A (fun k t => w1 (ix3 0 k t)) (fun k t => w2 (ix3 0 k t)) o ho i d
          * w3 (ix3 0 ⟨o + d.val, by omega⟩ n) := by
  have hs : ∀ i j, scores (extractStridedSlice S256x128 ![0, o] (proj x w0) hq)
      (extractStridedSlice S256x128 ![0, o] (proj x w1) hq) (ix2 i j)
        = (∑ d : Fin 128, (∑ k, x (ix2 i k) * A k ⟨o + d, by omega⟩) * (∑ k, x (ix2 j k) * w1 (ix3 0 k ⟨o + d, by omega⟩))) * scale := by
    intro i j
    rw [← scores_scaled scale_nonneg scale_ne_top, scores_apply]
    refine Finset.sum_congr rfl fun d _ => ?_
    rw [cols_apply o hq ho, cols_apply o hq ho, proj_apply, proj_apply]
    simp only [hA]
  pointwise [head]
  refine Finset.sum_congr rfl fun d _ => ?_
  congr 1
  refine (mix_apply _ _ i d).trans ?_
  unfold attAt att
  simp only [weights_apply, cols_apply o hq ho, proj_apply]
  congr 2
  funext i j
  exact congrArg (fun S => wts S i j) (funext fun i => funext fun j => hs i j)

/-- A device's contribution to a batch at an index. -/
theorem contrib_apply (x : FVec Ideal S256x1024 .bf16) (w0 w1 w2 w3 : Vec Ideal S1x1024x1024 .bf16)
    (A : Fin 1024 → Fin 1024 → EReal) (hA : ∀ k t, w0 (ix3 0 k t) = A k t * scale) (i : Fin 256) (n : Fin 1024) :
    contrib x w0 w1 w2 w3 (ix2 i n)
      = out (N := 1024) rfl (fun i k => x (ix2 i k)) A (fun k t => w1 (ix3 0 k t)) (fun k t => w2 (ix3 0 k t))
          (fun t n => w3 (ix3 0 t n)) i n := by
  rw [out_heads, Fin.sum_univ_eight]
  unfold contrib heads
  simp only [addf_apply, Ideal.addf_def]
  rw [head_apply 0 _ _ (by omega) x w0 w1 w2 w3 A hA, head_apply 128 _ _ (by omega) x w0 w1 w2 w3 A hA,
    head_apply 256 _ _ (by omega) x w0 w1 w2 w3 A hA, head_apply 384 _ _ (by omega) x w0 w1 w2 w3 A hA,
    head_apply 512 _ _ (by omega) x w0 w1 w2 w3 A hA, head_apply 640 _ _ (by omega) x w0 w1 w2 w3 A hA,
    head_apply 768 _ _ (by omega) x w0 w1 w2 w3 A hA, head_apply 896 _ _ (by omega) x w0 w1 w2 w3 A hA]
  rfl

end Cert.KernelIdealRun

end
-- ==== Proof.KernelIdealOut.lean ====
/-
# 01_k — the kernel's result is the sum of the four devices' contributions

Over the extended reals roundings change nothing, so what device `c` writes out is its own contribution to its batch plus
what its two neighbours pass on: their own contributions to that batch, one of them with the contribution of the device
two away added in. On the upper half of the rows the device one down passes that on, on the lower half the one up.
-/
module

public import proofs.«01_k».proof.Proof.KernelIdealContrib

@[expose] public section

set_option maxRecDepth 16384

noncomputable section

namespace Cert.KernelIdealRun

open Cert.KernelIdeal Cert.KernelIdeal.Gen
open Idealize.ShloMosaic
open Idealize.ShloMosaic.TcCoe

variable (m : (ℓ : Loc nD τ sig) → Buf (Elt Ideal) ℓ)

/-- The contribution of device `d` to the batch of device `b`, at an index. -/
def share (d b : Dev nD) (i : Fin 256) (n : Fin 1024) : EReal :=
  contrib (xb m b) (wb m d 0) (wb m d 1) (wb m d 2) (wb m d 3) (ix2 i n)

/-- The gathered activations, slot by slot: the activations of the device one down, one up and two away. -/
theorem gathered (c : Dev nD) (j : Fin 3) :
    shapeCast S256x1024 (slotOf (n := 3) (a := 256) (b := 1024) (xg m c) j) shapeCasts_S1x256x1024_S256x1024
      = xb m (match j with | 0 => prv c | 1 => nxt c | 2 => prv (prv c)) := by
  funext i
  rw [eq_ix2 i]
  pointwise [xg, slotOf_stk]
  rfl

/-- A slot made of a contribution, at an index. -/
theorem slot_apply (v : FVec Ideal S256x1024 .f32) (i : Fin 256) (n : Fin 1024) :
    shapeCast S1x256x1024 v shapeCasts_S256x1024_S1x256x1024 (ix3 0 i n) = v (ix2 i n) := by
  pointwise

/-- The four contributions of device `c`, at an index. -/
theorem pt0_apply (c : Dev nD) (i : Fin 256) (n : Fin 1024) : pt m c 0 (ix3 0 i n) = share m c c i n :=
  (congrFun (part0_eq _ _ _ _ _) _).trans (slot_apply _ i n)

theorem pt1_apply (c : Dev nD) (i : Fin 256) (n : Fin 1024) : pt m c 1 (ix3 0 i n) = share m c (prv c) i n := by
  refine (congrFun (part1_eq _ _ _ _ _) _).trans ((slot_apply _ i n).trans ?_)
  rw [gathered m c 0]; rfl

theorem pt2_apply (c : Dev nD) (i : Fin 256) (n : Fin 1024) : pt m c 2 (ix3 0 i n) = share m c (nxt c) i n := by
  refine (congrFun (part2_eq _ _ _ _ _) _).trans ((slot_apply _ i n).trans ?_)
  rw [gathered m c 1]; rfl

theorem pt3_apply (c : Dev nD) (i : Fin 256) (n : Fin 1024) : pt m c 3 (ix3 0 i n) = share m c (prv (prv c)) i n := by
  refine (congrFun (part3_eq _ _ _ _ _) _).trans ((slot_apply _ i n).trans ?_)
  rw [gathered m c 2]; rfl

/-! ### The half slots that are built and sent -/

variable (P : Vec Ideal S1x256x1024 .f32) (R : Vec Ideal S1x128x1024 .bf16) (r : Fin 128) (n : Fin 1024)

theorem upper_apply : k0_pay56 P (ix3 0 r n) = P (ix3 0 ⟨r.val, by omega⟩ n) := by
  pointwise [k0_pay56]

theorem lower_apply : k0_pay57 P (ix3 0 r n) = P (ix3 0 ⟨128 + r.val, by omega⟩ n) := by
  pointwise [k0_pay57]

theorem upper_add_apply : k0_pay75 P R (ix3 0 r n) = P (ix3 0 ⟨r.val, by omega⟩ n) + R (ix3 0 r n) := by
  pointwise [k0_pay75]

theorem lower_keep_apply : k0_pay76 P (ix3 0 r n) = P (ix3 0 ⟨128 + r.val, by omega⟩ n) := by
  pointwise [k0_pay76]

theorem lower_add_apply : k0_pay77 P R (ix3 0 r n) = P (ix3 0 ⟨128 + r.val, by omega⟩ n) + R (ix3 0 r n) := by
  pointwise [k0_pay77]

theorem upper_keep_apply : k0_pay78 P (ix3 0 r n) = P (ix3 0 ⟨r.val, by omega⟩ n) := by
  pointwise [k0_pay78]

/-- What a device writes out of three slots: their sum. -/
theorem sum_apply (A B : Vec Ideal S1x256x1024 .bf16) (i : Fin 256) : k0_pay79 P A B (ix3 0 i n) = P (ix3 0 i n) + A (ix3 0 i n) + B (ix3 0 i n) := by
  pointwise [k0_pay79]

/-! ### What is passed on -/

variable {n}

/-- An upper row of what device `c` passes up the ring. -/
theorem up_upper (c : Dev nD) (i : Fin 256) (hi : i.val < 128) :
    acS m c 0 (ix3 0 i n) = share m c (nxt c) i n + share m (prv c) (prv (prv (prv c))) i n := by
  show halves _ _ _ = _
  unfold halves
  rw [dif_pos (show (ix3 (0 : Fin 1) i n 1).val < 128 from hi)]
  refine (upper_add_apply (pt m c 2) (hr m c 0) ⟨i.val, hi⟩ n).trans ?_
  refine congrArg₂ (· + ·) (pt2_apply m c i n) ?_
  exact (upper_apply (pt m (prv c) 3) ⟨i.val, hi⟩ n).trans (pt3_apply m (prv c) i n)

/-- A lower row of it. -/
theorem up_lower (c : Dev nD) (i : Fin 256) (hi : ¬ i.val < 128) : acS m c 0 (ix3 0 i n) = share m c (nxt c) i n := by
  have e : (⟨128 + (i.val - 128), by omega⟩ : Fin 256) = i := Fin.ext (by show 128 + (i.val - 128) = i.val; omega)
  show halves _ _ _ = _
  unfold halves
  rw [dif_neg (show ¬ (ix3 (0 : Fin 1) i n 1).val < 128 from hi)]
  refine (lower_keep_apply (pt m c 2) ⟨i.val - 128, by omega⟩ n).trans ?_
  rw [e]
  exact pt2_apply m c i n

/-- An upper row of what device `c` passes down the ring. -/
theorem down_upper (c : Dev nD) (i : Fin 256) (hi : i.val < 128) : acS m c 1 (ix3 0 i n) = share m c (prv c) i n := by
  show halves _ _ _ = _
  unfold halves
  rw [dif_pos (show (ix3 (0 : Fin 1) i n 1).val < 128 from hi)]
  exact (upper_keep_apply (pt m c 1) ⟨i.val, hi⟩ n).trans (pt1_apply m c i n)

/-- A lower row of it. -/
theorem down_lower (c : Dev nD) (i : Fin 256) (hi : ¬ i.val < 128) :
    acS m c 1 (ix3 0 i n) = share m c (prv c) i n + share m (nxt c) (prv (prv (nxt c))) i n := by
  have e : (⟨128 + (i.val - 128), by omega⟩ : Fin 256) = i := Fin.ext (by show 128 + (i.val - 128) = i.val; omega)
  show halves _ _ _ = _
  unfold halves
  rw [dif_neg (show ¬ (ix3 (0 : Fin 1) i n 1).val < 128 from hi)]
  refine (lower_add_apply (pt m c 1) (hr m c 1) ⟨i.val - 128, by omega⟩ n).trans ?_
  refine congrArg₂ (· + ·) ?_ ?_
  · rw [e]; exact pt1_apply m c i n
  · refine (lower_apply (pt m (nxt c) 3) ⟨i.val - 128, by omega⟩ n).trans ?_
    rw [e]; exact pt3_apply m (nxt c) i n

/-- A sum over the ring, from any device on. -/
theorem sum_ring (f : Dev nD → EReal) (c : Dev nD) : ∑ d : Dev nD, f d = f c + f (prv c) + f (nxt c) + f (prv (prv c)) := by
  have h : ∀ c : Dev nD, (Finset.univ : Finset (Dev nD)) = {c, prv c, nxt c, prv (prv c)}
      ∧ c ∉ ({prv c, nxt c, prv (prv c)} : Finset (Dev nD)) ∧ prv c ∉ ({nxt c, prv (prv c)} : Finset (Dev nD))
      ∧ nxt c ∉ ({prv (prv c)} : Finset (Dev nD)) := by decide
  obtain ⟨h, h1, h2, h3⟩ := h c
  rw [h, Finset.sum_insert h1, Finset.sum_insert h2, Finset.sum_insert h3, Finset.sum_singleton]
  simp only [add_assoc]

/-- The result on device `c`: the sum of the four devices' contributions to its batch. -/
theorem outV_apply (c : Dev nD) (i : Fin 256) : outV m c (ix3 0 i n) = ∑ d : Dev nD, share m d c i n := by
  have e1 : nxt (prv c) = c := nxt_prv c
  have e2 : prv (nxt c) = c := prv_nxt c
  have e3 : prv (prv (prv (prv c))) = c := by revert c; decide
  have e4 : prv (prv (nxt (nxt c))) = c := by revert c; decide
  rw [sum_ring _ c]
  refine (sum_apply (pt m c 0) n (acR m c 0) (acR m c 1) i).trans ?_
  rw [pt0_apply]
  by_cases hi : i.val < 128
  · rw [show acR m c 0 (ix3 0 i n) = _ from up_upper m (prv c) i hi, show acR m c 1 (ix3 0 i n) = _ from down_upper m (nxt c) i hi,
      e1, e2, e3]
    simp only [add_assoc, add_comm (share m (prv (prv c)) c i n)]
  · rw [show acR m c 0 (ix3 0 i n) = _ from up_lower m (prv c) i hi, show acR m c 1 (ix3 0 i n) = _ from down_lower m (nxt c) i hi,
      e1, e2, e4, nxt_nxt]
    simp only [add_assoc]

end Cert.KernelIdealRun

end
-- ==== Proof.ReferenceValue.lean ====
/-
# 01_k — what the reference computes, over the extended reals

The reference's result, a term of its host operations, is taken apart into the projections, the scores, the running
maximum, the exponentials and the average, each read at an index. At an index the result is the contribution of all 4096
columns of heads to the batch, as the mathematics of Attention has it.
-/
module

public import proofs.«01_k».proof.Proof.Gen.ReferenceIdeal
public import proofs.«01_k».proof.Proof.Gen.ReferenceIdeal.Run
public import proofs.«01_k».proof.Proof.Attention

@[expose] public section

set_option maxRecDepth 16384

noncomputable section

namespace Cert.ReferenceIdealRun

open Cert.ReferenceIdeal Cert.ReferenceIdeal.Gen Cert.ReferenceIdeal.Value
open Idealize.ShloMosaic
open Cert.Attention

/-- A projection, by heads. -/
def proj (x : FVec Ideal S4x256x1024 .f32) (w : FVec Ideal S1024x4096 .f32) : FVec Ideal S4x256x32x128 .f32 :=
  shapeCast S4x256x32x128 (Host.dotGeneral dot_S4x256x1024_S1024x4096_S4x256x4096_2_0_01_1_n_n none x w : FVec Ideal S4x256x4096 .f32)
    shapeCasts_S4x256x4096_S4x256x32x128

/-- The scaled scores. -/
def scores (q k : FVec Ideal S4x256x32x128 .f32) : FVec Ideal S4x32x256x256 .f32 :=
  mulf (Host.dotGeneral dot_S4x256x32x128_S4x256x32x128_S4x32x256x256_3_3_1_1_02_02 none q k)
    (broadcastInDim S4x32x256x256 ![] bcast_S_S4x32x256x256 (constant S_ .f32 0x3DB504F3#32))

/-- The running maximum, from minus infinity, over rows whose largest scores are `y`. -/
def maxOf (y : FVec Ideal S4x32x256 .f32) : FVec Ideal S4x32x256x1 .f32 :=
  maximumf (broadcastInDim S4x32x256x1 ![] bcast_S_S4x32x256x1 (constant S_ .f32 0xFF800000#32))
    (broadcastInDim S4x32x256x1 ![0, 1, 2] bcast_S4x32x256_S4x32x256x1_0_1_2 y)

/-- The running maximum of each row of scores, -/
def rowMax (s : FVec Ideal S4x32x256x256 .f32) : FVec Ideal S4x32x256x1 .f32 :=
  maxOf (Host.reduce FloatOps.maximumf s (constant S_ .f32 0xFF800000#32) reducesTo_S4x32x256x256_S4x32x256_d3 h_S_)

/-- the factor of what was accumulated before the only block, -/
def decay (s : FVec Ideal S4x32x256x256 .f32) : FVec Ideal S4x32x256x1 .f32 :=
  Host.exp (subf (broadcastInDim S4x32x256x1 ![] bcast_S_S4x32x256x1 (constant S_ .f32 0xFF800000#32)) (rowMax s))

/-- and the exponentials. -/
def weights (s : FVec Ideal S4x32x256x256 .f32) : FVec Ideal S4x32x256x256 .f32 :=
  Host.exp (subf s (broadcastInDim S4x32x256x256 ![0, 1, 2, 3] bcast_S4x32x256x1_S4x32x256x256_0_1_2_3 (rowMax s)))

/-- The attention of all heads. -/
def mix (s : FVec Ideal S4x32x256x256 .f32) (v : FVec Ideal S4x256x32x128 .f32) : FVec Ideal S4x256x32x128 .f32 :=
  Host.divf
    (addf (mulf (broadcastInDim S4x256x32x128 ![] bcast_S_S4x256x32x128 (constant S_ .f32 0x00000000#32))
        (broadcastInDim S4x256x32x128 ![0, 1, 2, 3] bcast_S4x256x32x1_S4x256x32x128_0_1_2_3
          (transpose S4x256x32x1 [0, 2, 1, 3] (decay s) transposes_S4x32x256x1_S4x256x32x1_0_2_1_3)))
      (transpose S4x256x32x128 [0, 3, 1, 2]
        (Host.dotGeneral dot_S4x256x32x128_S4x32x256x256_S4x32x128x256_1_3_3_2_02_01 none v (weights s))
        transposes_S4x32x128x256_S4x256x32x128_0_3_1_2))
    (broadcastInDim S4x256x32x128 ![0, 1, 2, 3] bcast_S4x256x32x1_S4x256x32x128_0_1_2_3
      (transpose S4x256x32x1 [0, 2, 1, 3]
        (addf (mulf (broadcastInDim S4x32x256x1 ![] bcast_S_S4x32x256x1 (constant S_ .f32 0x00000000#32)) (decay s))
          (broadcastInDim S4x32x256x1 ![0, 1, 2] bcast_S4x32x256_S4x32x256x1_0_1_2
            (Host.reduceAdd (weights s) (constant S_ .f32 0x00000000#32) reducesTo_S4x32x256x256_S4x32x256_d3 h_S_)))
        transposes_S4x32x256x1_S4x256x32x1_0_2_1_3))

/-- The whole result of its five arguments. -/
def result (x : FVec Ideal S4x256x1024 .f32) (wq wk wv : FVec Ideal S1024x4096 .f32) (wo : FVec Ideal S4096x1024 .f32) :
    FVec Ideal S4x256x1024 .f32 :=
  Host.dotGeneral dot_S4x256x4096_S4096x1024_S4x256x1024_2_0_01_1_n_n none
    (shapeCast S4x256x4096 (mix (scores (proj x wq) (proj x wk)) (proj x wv)) shapeCasts_S4x256x32x128_S4x256x4096) wo

/-- The result of the reference's run is that. -/
theorem res_eq (m : (ℓ : Loc nD τ sig) → Buf (Elt Ideal) ℓ) (c : Dev nD) :
    res_main_v34 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A projection at an index. -/
theorem proj_apply (x : FVec Ideal S4x256x1024 .f32) (w : FVec Ideal S1024x4096 .f32) (b : Fin 4) (i : Fin 256) (h : Fin 32)
    (d : Fin 128) : proj x w (ix4 b i h d) = ∑ k : Fin 1024, x (ix3 b i k) * w (ix2 k ⟨h.val * 128 + d.val, by omega⟩) := by
  pointwise [proj]

/-- The scores at an index. -/
theorem scores_apply (q k : FVec Ideal S4x256x32x128 .f32) (b : Fin 4) (h : Fin 32) (i j : Fin 256) :
    scores q k (ix4 b h i j) = (∑ d : Fin 128, q (ix4 b i h d) * k (ix4 b j h d)) * scale := by
  pointwise [scores, scale]

/-- The largest of a row at an index, from any first value. -/
theorem hostMax_apply (s : FVec Ideal S4x32x256x256 .f32) (z : FVec Ideal S_ .f32) (b : Fin 4) (h : Fin 32) (i : Fin 256) :
    Host.reduce FloatOps.maximumf s z reducesTo_S4x32x256x256_S4x32x256_d3 h_S_ (ix3 b h i)
      = Finset.fold max (z (Shape.Idx.first h_S_)) (fun x => s (ix4 b h i x)) Finset.univ := by
  pointwise

/-- Minus infinity is no larger than any score. -/
theorem maxOf_apply (y : FVec Ideal S4x32x256 .f32) (b : Fin 4) (h : Fin 32) (i : Fin 256) :
    maxOf y (ix4 b h i 0) = y (ix3 b h i) := by
  pointwise [maxOf]
  rw [ofBits_bot]
  exact max_bot_left _

/-- The running maximum at an index. -/
theorem rowMax_apply (s : FVec Ideal S4x32x256x256 .f32) (b : Fin 4) (h : Fin 32) (i : Fin 256) :
    rowMax s (ix4 b h i 0) = Finset.fold max ⊥ (fun x => s (ix4 b h i x)) Finset.univ := by
  have hz : (constant S_ .f32 0xFF800000#32 : FVec Ideal S_ .f32) (Shape.Idx.first h_S_) = ⊥ := ofBits_bot
  rw [← hz, ← hostMax_apply]
  exact maxOf_apply _ b h i

/-- The exponentials at an index. -/
theorem weights_apply (s : FVec Ideal S4x32x256x256 .f32) (b : Fin 4) (h : Fin 32) (i j : Fin 256) :
    weights s (ix4 b h i j) = wts (fun i j => s (ix4 b h i j)) i j := by
  pointwise [weights]
  rw [rowMax_apply]
  rfl

/-- The attention at an index. -/
theorem mix_apply (s : FVec Ideal S4x32x256x256 .f32) (v : FVec Ideal S4x256x32x128 .f32) (b : Fin 4) (i : Fin 256) (h : Fin 32)
    (d : Fin 128) : mix s v (ix4 b i h d) = avg (wts fun i j => s (ix4 b h i j)) (fun j d => v (ix4 b j h d)) i d := by
  pointwise [mix]
  simp only [zero_mul, zero_add, weights_apply]
  unfold avg
  congr 1
  exact Finset.sum_congr rfl fun j _ => mul_comm _ _

/-- The result at an index. -/
theorem result_apply (x : FVec Ideal S4x256x1024 .f32) (wq wk wv : FVec Ideal S1024x4096 .f32) (wo : FVec Ideal S4096x1024 .f32)
    (b : Fin 4) (i : Fin 256) (n : Fin 1024) :
    result x wq wk wv wo (ix3 b i n)
      = out (N := 4096) rfl (fun i k => x (ix3 b i k)) (fun k t => wq (ix2 k t)) (fun k t => wk (ix2 k t))
          (fun k t => wv (ix2 k t)) (fun t n => wo (ix2 t n)) i n := by
  pointwise [result]
  refine Finset.sum_congr rfl fun t _ => ?_
  congr 1
  rw [mix_apply]
  simp only [scores_apply, proj_apply]
  rfl

end Cert.ReferenceIdealRun

end
-- ==== Proof.Value.lean ====
/-
# 01_k — the kernel's result is the reference's

Each device holds its block of the whole arrays: its batch of the activations, its 1024 columns of the query, key and
value weights, its 1024 rows of the output weights. Then its contribution to a batch is the part of the reference's sum
over 4096 columns of heads that lies in its block, the four parts are the whole sum, and what device `c` writes out is
batch `c` of the reference's result.
-/
module

public import proofs.«01_k».proof.Proof.KernelIdealOut
public import proofs.«01_k».proof.Proof.ReferenceValue
public import Idealize.ShloMosaic.Lib.Layout

@[expose] public section

set_option maxRecDepth 16384

noncomputable section

namespace Cert.KernelIdealRun

open Cert.KernelIdeal Cert.KernelIdeal.Gen
open Idealize.ShloMosaic
open Idealize.ShloMosaic.TcCoe
open Cert.Attention

/-! ### Blocks at an index -/

/-- A block of batches. -/
theorem batch_at (X : FVec Ideal ⟨3, ![4, 256, 1024]⟩ .f32) (c : Fin 4) (i : Fin 256) (k : Fin 1024) :
    Layout.block ⟨3, ![1, 256, 1024]⟩ ⟨3, ![4, 256, 1024]⟩ 0 4 c X (by decide) (ix3 0 i k) = X (ix3 c i k) :=
  congrArg X (Shape.idx3_ext (by show c.val * 1 + 0 = c.val; omega) rfl rfl)

/-- A block of columns. -/
theorem cols_at (W : FVec Ideal ⟨2, ![1024, 4096]⟩ .f32) (c : Fin 4) (k t : Fin 1024) :
    Layout.block ⟨2, ![1024, 1024]⟩ ⟨2, ![1024, 4096]⟩ 1 4 c W (by decide) (ix2 k t) = W (ix2 k ⟨c.val * 1024 + t.val, by omega⟩) :=
  congrArg W (funext fun a => Fin.ext (by match a with | 0 => rfl | 1 => rfl))

/-- A block of rows. -/
theorem rows_at (W : FVec Ideal ⟨2, ![4096, 1024]⟩ .f32) (c : Fin 4) (t n : Fin 1024) :
    Layout.block ⟨2, ![1024, 1024]⟩ ⟨2, ![4096, 1024]⟩ 0 4 c W (by decide) (ix2 t n) = W (ix2 ⟨c.val * 1024 + t.val, by omega⟩ n) :=
  congrArg W (funext fun a => Fin.ext (by match a with | 0 => rfl | 1 => rfl))

/-! ### The rounded arguments at an index -/

variable (m : (ℓ : Loc nD τ sig) → Buf (Elt Ideal) ℓ)

theorem xb_apply (c : Dev nD) (i : Fin 256) (k : Fin 1024) : xb m c (ix2 i k) = xIn m c (ix3 0 i k) := by
  pointwise [xb, k0_pay1]

/-- The query weights are scaled as they are rounded. -/
theorem scaled_apply (v : Vec Ideal S1024x1024 .f32) (k t : Fin 1024) : k0_pay2 v (ix3 0 k t) = v (ix2 k t) * scale := by
  pointwise [k0_pay2, scale]

theorem wq_apply (c : Dev nD) (k t : Fin 1024) : wb m c 0 (ix3 0 k t) = wqIn m c (ix2 k t) * scale :=
  scaled_apply (wqIn m c) k t

theorem wk_apply (c : Dev nD) (k t : Fin 1024) : wb m c 1 (ix3 0 k t) = wkIn m c (ix2 k t) := by
  show k0_pay3 _ _ = _
  pointwise [k0_pay3]

theorem wv_apply (c : Dev nD) (k t : Fin 1024) : wb m c 2 (ix3 0 k t) = wvIn m c (ix2 k t) := by
  show k0_pay4 _ _ = _
  pointwise [k0_pay4]

theorem wo_apply (c : Dev nD) (t n : Fin 1024) : wb m c 3 (ix3 0 t n) = woIn m c (ix2 t n) := by
  show k0_pay6 (k0_pay5 (woIn m c)) (ix3 0 t n) = _
  pointwise [k0_pay6, k0_pay5]

/-- A device's contribution to a batch, of the blocks that the devices were launched with. -/
theorem share_apply (d b : Dev nD) (i : Fin 256) (n : Fin 1024) :
    share m d b i n = out (N := 1024) rfl (fun i k => xIn m b (ix3 0 i k)) (fun k t => wqIn m d (ix2 k t))
      (fun k t => wkIn m d (ix2 k t)) (fun k t => wvIn m d (ix2 k t)) (fun t n => woIn m d (ix2 t n)) i n := by
  refine (contrib_apply (xb m b) (wb m d 0) (wb m d 1) (wb m d 2) (wb m d 3) (fun k t => wqIn m d (ix2 k t))
    (fun k t => wq_apply m d k t) i n).trans ?_
  simp only [xb_apply, wk_apply, wv_apply, wo_apply]

/-- Launched with the blocks of whole arrays, the kernel writes out on every device its block of the reference's result of
    these arrays. -/
theorem outV_block (X : FVec Ideal ⟨3, ![4, 256, 1024]⟩ .f32) (Wq Wk Wv : FVec Ideal ⟨2, ![1024, 4096]⟩ .f32)
    (Wo : FVec Ideal ⟨2, ![4096, 1024]⟩ .f32)
    (hx : ∀ c : Dev nD, xIn m c = Layout.block ⟨3, ![1, 256, 1024]⟩ ⟨3, ![4, 256, 1024]⟩ 0 4 c X)
    (hq : ∀ c : Dev nD, wqIn m c = Layout.block ⟨2, ![1024, 1024]⟩ ⟨2, ![1024, 4096]⟩ 1 4 c Wq)
    (hk : ∀ c : Dev nD, wkIn m c = Layout.block ⟨2, ![1024, 1024]⟩ ⟨2, ![1024, 4096]⟩ 1 4 c Wk)
    (hv : ∀ c : Dev nD, wvIn m c = Layout.block ⟨2, ![1024, 1024]⟩ ⟨2, ![1024, 4096]⟩ 1 4 c Wv)
    (ho : ∀ c : Dev nD, woIn m c = Layout.block ⟨2, ![1024, 1024]⟩ ⟨2, ![4096, 1024]⟩ 0 4 c Wo) (c : Dev nD) :
    outV m c = Layout.block ⟨3, ![1, 256, 1024]⟩ ⟨3, ![4, 256, 1024]⟩ 0 4 c (ReferenceIdealRun.result X Wq Wk Wv Wo) := by
  funext j
  obtain ⟨i, n, rfl⟩ : ∃ (i : Fin 256) (n : Fin 1024), j = ix3 0 i n :=
    ⟨j 1, j 2, Shape.idx3_ext (congrArg Fin.val (Subsingleton.elim (α := Fin 1) _ _)) rfl rfl⟩
  refine Eq.trans ?_ (batch_at (ReferenceIdealRun.result X Wq Wk Wv Wo) c i n).symm
  refine (outV_apply m c i).trans (Eq.trans ?_ (ReferenceIdealRun.result_apply X Wq Wk Wv Wo c i n).symm)
  rw [out_blocks]
  refine Finset.sum_congr rfl fun d _ => ?_
  rw [share_apply, hx, hq, hk, hv, ho]
  simp only [batch_at, cols_at, rows_at]

end Cert.KernelIdealRun

end
-- ==== Proof.lean ====
/- The certificate of `Cert.Claim` (proofs.«01_k».proof.Defs): the frames of the kernel, of the idealized kernel and of the
   reference, that idealizing rewrote nothing, and that the idealized kernel and reference compute the same result.
   The run of the kernel is in KernelLaunch and KernelIdealLaunch, the equation of the results in Value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealLaunch
public import proofs.«01_k».proof.Proof.KernelLaunch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frame of the kernel as printed: every schedule ends, with the arguments as they were and every
semaphore at zero. -/
theorem frame_kernel : Cert.quiescent_Kernel := by
  intro m ρ _
  exact (θ_run Cert.Kernel.defs _ _).mono
    (fun _ h => ⟨fun c => (h.1 c).2, h.2⟩) (Cert.KernelRun.run_main (F := Bits) m ρ)

/-- The frame of the kernel over the extended reals. -/
theorem frame_kernelIdeal : Cert.quiescent_KernelIdeal := by
  intro m ρ _
  exact (θ_run Cert.KernelIdeal.defs _ _).mono
    (fun _ h => ⟨fun c => (h.1 c).2, h.2⟩) (Cert.KernelIdealRun.run_main (F := Ideal) m ρ)

/-- The frame of the reference over the extended reals. -/
theorem frame_referenceIdeal : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Launched with the blocks of whole arrays, the kernel leaves on every device its block of what the reference computes of
these arrays. -/
theorem algebraic : Cert.algebraic_KernelIdeal_ReferenceIdeal := by
  intro m ρ m' ρ' _ hin
  refine ⟨Cert.ReferenceIdeal.Value.res_main_v34 (F := Ideal) m' 0, ?_, ?_⟩
  · refine (θ_run Cert.KernelIdeal.defs _ _).mono (fun _ h c => ?_) (Cert.KernelIdealRun.run_main (F := Ideal) m ρ)
    refine ⟨(h.1 c).1.trans ?_, (h.1 c).2⟩
    rw [Cert.ReferenceIdealRun.res_eq]
    exact Cert.KernelIdealRun.outV_block m _ _ _ _ _ (fun c => (hin c).1) (fun c => (hin c).2.1) (fun c => (hin c).2.2.1)
      (fun c => (hin c).2.2.2.1) (fun c => (hin c).2.2.2.2) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
